-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_indices_sorted [hPre_indices_sorted : Cert.Pre_indices_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_indices_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_sorted [hPre_indices_sorted : Cert.Pre_indices_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_indices_sorted [hKernelIdeal : Cert.KernelIdeal.Facts] [hPre_indices_sorted : Cert.Pre_indices_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_indices_sorted [hReferenceIdeal : Cert.ReferenceIdeal.Facts] [hPre_indices_sorted : Cert.Pre_indices_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_indices_sorted [hKernelIdeal : Cert.KernelIdeal.Facts] [hReferenceIdeal : Cert.ReferenceIdeal.Facts] [hPre_indices_sorted : Cert.Pre_indices_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_indices_sorted : Cert.Pre_indices_sorted.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_indices_sorted (hKernelIdeal := hKernelIdeal) (hPre_indices_sorted := hPre_indices_sorted)
    ∧ quiescent_ReferenceIdeal (hReferenceIdeal := hReferenceIdeal)
    ∧ quiescent_ReferenceIdeal_pre_indices_sorted (hReferenceIdeal := hReferenceIdeal) (hPre_indices_sorted := hPre_indices_sorted)
    ∧ preserves_Kernel_KernelIdeal
    ∧ algebraic_KernelIdeal_ReferenceIdeal_pre_indices_sorted (hKernelIdeal := hKernelIdeal) (hReferenceIdeal := hReferenceIdeal) (hPre_indices_sorted := hPre_indices_sorted)
-- ==== Pre_indices_in_range.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x256 .f32) (main_arg1 : IVec S100000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 1024#32
  let main_v2 : IVec S100000 32 := broadcastInDim S100000 ![] bcast_S_S100000 main_c_0
  let main_v3 : IVec S100000 1 := cmpi .slt main_arg1 main_v2
  let main_v4 : IVec S100000 1 := andi main_v1 main_v3
  main_v4
-- ==== Pre_indices_sorted.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S_ : Shape := ⟨0, ![]⟩
abbrev S1 : Shape := ⟨1, ![1]⟩
abbrev S99999 : Shape := ⟨1, ![99999]⟩

class Facts : Prop where
  bcast_S_S1 : S_.BroadcastsInDim S1 (![] : Fin 0 → Fin S1.rank)
  slices_S100000_S99999_0 : S100000.Slices ![0] S99999
  concatenates_S1_S99999_S100000_d0 : Shape.Concatenates [S1, S99999] S100000 0
  bcast_S_S100000 : S_.BroadcastsInDim S100000 (![] : Fin 0 → Fin S100000.rank)

variable [Facts]

def fn {F : FTy → Type} [FloatOps F] (main_arg0 : FVec F S100000x256 .f32) (main_arg1 : IVec S100000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S100000 1 :=
  let main_c : IVec S_ 32 := constantI S_ 32 0#32
  let main_v0 : IVec S1 32 := broadcastInDim S1 ![] bcast_S_S1 main_c
  let main_v1 : IVec S99999 32 := (extractStridedSlice S99999 ![0] · slices_S100000_S99999_0) main_arg1
  let main_v2 : IVec S100000 32 := (fun a b => concatenate S100000 0 [⟨S1, a⟩, ⟨S99999, b⟩] concatenates_S1_S99999_S100000_d0) main_v0 main_v1
  let main_v3 : IVec S100000 1 := cmpi .sge main_arg1 main_v2
  let main_c_0 : IVec S_ 32 := constantI S_ 32 1024#32
  let main_v4 : IVec S100000 32 := broadcastInDim S100000 ![] bcast_S_S100000 main_c_0
  let main_v5 : IVec S100000 1 := cmpi .slt main_arg1 main_v4
  let main_v6 : IVec S100000 1 := andi main_v3 main_v5
  main_v6
-- ==== Kernel.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S10x1x10000 : Shape := ⟨3, ![10, 1, 10000]⟩
abbrev S10 : Shape := ⟨1, ![10]⟩
abbrev S1x256 : Shape := ⟨2, ![1, 256]⟩
abbrev S1024x256 : Shape := ⟨2, ![1024, 256]⟩
abbrev S10000x256 : Shape := ⟨2, ![10000, 256]⟩
abbrev S1x1x10000 : Shape := ⟨3, ![1, 1, 10000]⟩
abbrev S1152x256 : Shape := ⟨2, ![1152, 256]⟩
abbrev S1x10000 : Shape := ⟨2, ![1, 10000]⟩
abbrev S1 : Shape := ⟨1, ![1]⟩
abbrev S128x10000 : Shape := ⟨2, ![128, 10000]⟩
abbrev S128x256 : Shape := ⟨2, ![128, 256]⟩

abbrev nBuf : Space → Nat
  | .hbm => 16
  | .vmem => 14
  | .smem => 2
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S10x1x10000, .i32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1024x256, .f32⟩
  | .local _ .vmem, ⟨0, _⟩ => ⟨S10000x256, .f32⟩
  | .local _ .vmem, ⟨1, _⟩ => ⟨S10000x256, .f32⟩
  | .local _ .vmem, ⟨2, _⟩ => ⟨S1x1x10000, .i32⟩
  | .local _ .vmem, ⟨3, _⟩ => ⟨S1x1x10000, .i32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1024x256, .f32⟩
  | .local _ .vmem, ⟨13, _⟩ => ⟨S1152x256, .f32⟩
  | .local _ .smem, ⟨0, _⟩ => ⟨S10, .i32⟩
  | .local _ .smem, ⟨1, _⟩ => ⟨S10, .i32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![10], ![false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v5 : Index := Scalar.indexCast arg0
  ![v5.toNat]
def k0_off2 (v9 : BitVec 32) : Fin 2 → Nat :=
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c8_i32 : BitVec 32 := 8#32
  let c0_i32_5 : BitVec 32 := 0#32
  let v16 : BitVec 1 := Scalar.cmpi .sgt c8_i32 c0_i32_5
  let v17 : BitVec 32 := Scalar.extui v16
  let c0_i32_6 : BitVec 32 := 0#32
  let v18 : BitVec 1 := Scalar.cmpi .slt c8_i32 c0_i32_6
  let v19 : BitVec 32 := Scalar.extui v18
  let v20 : BitVec 32 := Scalar.subi v17 v19
  let v21 : BitVec 1 := Scalar.cmpi .ne v15 v20
  let v22 : BitVec 32 := Scalar.remsi v9 c8_i32
  let c0_i32_7 : BitVec 32 := 0#32
  let v23 : BitVec 1 := Scalar.cmpi .ne v22 c0_i32_7
  let v24 : BitVec 1 := Scalar.andi v21 v23
  let v10 : BitVec 32 := Scalar.divsi v9 c8_i32
  let c1_i32 : BitVec 32 := 1#32
  let v25 : BitVec 32 := Scalar.subi v10 c1_i32
  let v26 : BitVec 32 := Scalar.select v24 v25 v10
  let c8_i32_8 : BitVec 32 := 8#32
  let v27 : BitVec 32 := Scalar.muli v26 c8_i32_8
  let v52 : Index := Scalar.indexCast v27
  let c0_22 : Index := 0#32
  ![v52.toNat, 0]

def k0_chk1 (v9 : BitVec 32) : Prop :=
  (∀ a, (k0_off2 v9) a + S128x256.size a ≤ S1152x256.size a)
theorem k0_off2_inb : ∀ (v9 : BitVec 32) (k0_hw1 : k0_chk1 v9), ∀ a, (k0_off2 v9) a + S128x256.size a ≤ S1152x256.size a := fun v9 k0_hw1 => k0_hw1

def k0_off3 (arg15 : BitVec 32) : Fin 2 → Nat :=
  let c8_i32_25 : BitVec 32 := 8#32
  let v64 : BitVec 32 := Scalar.muli arg15 c8_i32_25
  let v73 : Index := Scalar.indexCast v64
  let c0_27 : Index := 0#32
  ![v73.toNat, 0]

def k0_chk2 (arg15 : BitVec 32) : Prop :=
  (∀ a, (k0_off3 arg15) a + S128x256.size a ≤ S1152x256.size a)
theorem k0_off3_inb : ∀ (arg15 : BitVec 32) (k0_hw2 : k0_chk2 arg15), ∀ a, (k0_off3 arg15) a + S128x256.size a ≤ S1152x256.size a := fun arg15 k0_hw2 => k0_hw2

def k0_cond2 (i : grid0.Coords) : BitVec 1 :=
  let arg0 : BitVec 32 := BitVec.ofNat 32 (i 0).val
  let c9_i32 : BitVec 32 := 9#32
  let v61 : BitVec 1 := Scalar.cmpi .eq arg0 c9_i32
  let v62 : BitVec 32 := Scalar.extui v61
  let c0_i32_24 : BitVec 32 := 0#32
  let v63 : BitVec 1 := Scalar.cmpi .ne v62 c0_i32_24
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S1x256 : Shape := ⟨2, ![1, 256]⟩
abbrev S_ : Shape := ⟨0, ![]⟩
abbrev S1024x256 : Shape := ⟨2, ![1024, 256]⟩
abbrev S100000x1 : Shape := ⟨2, ![100000, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S100000x256, .f32⟩
  | .hbm, ⟨11, _⟩ => ⟨S1x256, .f32⟩
  | .hbm, ⟨12, _⟩ => ⟨S100000x256, .f32⟩
  | .hbm, ⟨13, _⟩ => ⟨S100000x256, .f32⟩
  | .hbm, ⟨14, _⟩ => ⟨S_, .f32⟩
  | .hbm, ⟨15, _⟩ => ⟨S100000x256, .f32⟩
  | .hbm, ⟨16, _⟩ => ⟨S100000x256, .f32⟩
  | .hbm, ⟨17, _⟩ => ⟨S100000x256, .f32⟩
  | .hbm, ⟨18, _⟩ => ⟨S1x256, .f32⟩
  | .hbm, ⟨19, _⟩ => ⟨S100000x256, .f32⟩
  | .hbm, ⟨20, _⟩ => ⟨S100000x256, .f32⟩
  | .hbm, ⟨21, _⟩ => ⟨S_, .f32⟩
  | .hbm, ⟨22, _⟩ => ⟨S1024x256, .f32⟩
  | .hbm, ⟨23, _⟩ => ⟨S100000x1, .i32⟩
  | .hbm, ⟨24, _⟩ => ⟨S1024x256, .f32⟩
  | .hbm, ⟨25, _⟩ => ⟨S1024x256, .f32⟩
  | .hbm, ⟨26, _⟩ => ⟨S1x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1x256, .f32⟩
  | .hbm, ⟨34, _⟩ => ⟨S1024x256, .f32⟩
  | .hbm, ⟨35, _⟩ => ⟨S1024x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_cst : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Proof.InRange.lean ====
/- What the precondition `indices_in_range` says of the segment indices, in plain numbers: every index is below 1024. -/
module

public import proofs.«01_k».proof.Proof.Gen.Pre_indices_in_range
public import Idealize.ShloMosaic.Lib.Pipeline.Value
public import Idealize.ShloMosaic.Lib.ValueIdx

@[expose] public section

noncomputable section

namespace Cert.Indices

open Idealize.ShloMosaic Idealize.ShloMosaic.ValueIdx

/-- The array of indices, as a function of the row's number. -/
abbrev Ix : Type := IVec (⟨1, ![100000]⟩ : Shape) 32

theorem andi_ofBool (a b : Bool) : IntOp.andi (BitVec.ofBool a) (BitVec.ofBool b) = BitVec.ofBool (a && b) := by
  cases a <;> cases b <;> rfl

theorem ofBool_eq_one (a : Bool) : BitVec.ofBool a = 1#1 ↔ a = true := by
  cases a <;> decide

variable {F : FTy → Type} [FloatOps F]

/-- Under `indices_in_range` every index is below 1024. -/
theorem lt_of_in_range (x0 x2 x3 x4 x5 x6 x7 x8 x9) (idx : Ix)
    (h : Cert.Pre_indices_in_range.fn (F := F) x0 idx x2 x3 x4 x5 x6 x7 x8 x9 = fun _ => 1#1) (y) : (idx y).toNat < 1024 := by
  have e := congrFun h y
  simp only [Cert.Pre_indices_in_range.fn, andi, cmpi, broadcastInDim, constantI, IntOp.cmpi, andi_ofBool, ofBool_eq_one, Bool.and_eq_true] at e
  obtain ⟨e1, e2⟩ := e
  simp only [BitVec.sle, BitVec.slt, decide_eq_true_eq, BitVec.toInt, BitVec.toNat_ofNat] at e1 e2
  omega

end Cert.Indices

end
-- ==== Proof.Indices.lean ====
/- What the precondition `indices_sorted` says of the segment indices, in plain numbers: every index is below 1024, and any
   two indices stand in the order of their places. -/
module

public import proofs.«01_k».proof.Proof.InRange
public import proofs.«01_k».proof.Proof.Gen.Pre_indices_sorted
public import Idealize.ShloMosaic.Lib.Pipeline.Value
public import Idealize.ShloMosaic.Lib.ValueIdx

@[expose] public section

noncomputable section

namespace Cert.Indices

open Idealize.ShloMosaic Idealize.ShloMosaic.ValueIdx

variable {F : FTy → Type} [FloatOps F]

/-- The array of `indices_sorted` that holds, at each row, the index of the row before it, and zero at the first. -/
theorem before_zero (idx : Ix) (j : Fin 100000) (hj : j.val = 0) (z : IVec (⟨1, ![1]⟩ : Shape) 32)
    (hc : Shape.Concatenates [(⟨1, ![1]⟩ : Shape), ⟨1, ![99999]⟩] ⟨1, ![100000]⟩ 0) (hs : Shape.Slices (⟨1, ![100000]⟩ : Shape) ![0] ⟨1, ![99999]⟩) :
    concatenate (⟨1, ![100000]⟩ : Shape) 0 [⟨(⟨1, ![1]⟩ : Shape), z⟩, ⟨(⟨1, ![99999]⟩ : Shape), extractStridedSlice (⟨1, ![99999]⟩ : Shape) ![0] idx hs⟩] hc (ix1 j)
      = z (ix1 (0 : Fin 1)) :=
  concatenate_pair_apply_left (t := ⟨1, ![100000]⟩) (s₁ := ⟨1, ![1]⟩) (s₂ := ⟨1, ![99999]⟩) (0 : Fin 1) _ _ hc _ rfl (ix1 (0 : Fin 1)) (by
    intro b; match b with | ⟨0, _⟩ => exact hj.symm)

theorem before_succ (idx : Ix) (n : ℕ) (hn : n + 1 < 100000) (z : IVec (⟨1, ![1]⟩ : Shape) 32)
    (hc : Shape.Concatenates [(⟨1, ![1]⟩ : Shape), ⟨1, ![99999]⟩] ⟨1, ![100000]⟩ 0) (hs : Shape.Slices (⟨1, ![100000]⟩ : Shape) ![0] ⟨1, ![99999]⟩) :
    concatenate (⟨1, ![100000]⟩ : Shape) 0 [⟨(⟨1, ![1]⟩ : Shape), z⟩, ⟨(⟨1, ![99999]⟩ : Shape), extractStridedSlice (⟨1, ![99999]⟩ : Shape) ![0] idx hs⟩] hc (ix1 ⟨n + 1, hn⟩)
      = idx (ix1 ⟨n, by omega⟩) := by
  refine (concatenate_pair_apply_right (t := ⟨1, ![100000]⟩) (s₁ := ⟨1, ![1]⟩) (s₂ := ⟨1, ![99999]⟩) (0 : Fin 1) _ _ hc _ rfl rfl
    (ix1 (⟨n, by omega⟩ : Fin 99999)) ?_ ?_).trans ?_
  · intro b hb; exact absurd (Fin.ext (by have := b.isLt; show b.val = 0; exact Nat.lt_one_iff.mp this)) hb
  · rfl
  · unfold extractStridedSlice
    refine congrArg idx (funext fun a => ?_)
    match a with | ⟨0, _⟩ => exact Fin.ext (Nat.zero_add n)

/-- Under `indices_sorted` every index is at least zero and below 1024, and no less than the one before it. -/
theorem step_of_sorted (x0 x2 x3 x4 x5 x6 x7 x8 x9) (idx : Ix)
    (h : Cert.Pre_indices_sorted.fn (F := F) x0 idx x2 x3 x4 x5 x6 x7 x8 x9 = fun _ => 1#1) :
    (∀ j : Fin 100000, j.val = 0 → 0 ≤ (idx (ix1 j)).toInt) ∧ (∀ j : Fin 100000, (idx (ix1 j)).toInt < 1024)
      ∧ ∀ (n : ℕ) (hn : n + 1 < 100000), (idx (ix1 ⟨n, by omega⟩)).toInt ≤ (idx (ix1 ⟨n + 1, hn⟩)).toInt := by
  have e : ∀ y, _ := fun y => congrFun h y
  simp only [Cert.Pre_indices_sorted.fn, andi, cmpi, IntOp.cmpi, andi_ofBool, ofBool_eq_one, Bool.and_eq_true] at e
  refine ⟨fun j hj => ?_, fun j => ?_, fun n hn => ?_⟩
  · have h1 := (e (ix1 j)).1
    rw [before_zero idx j hj] at h1
    have h2 : (0#32).toInt ≤ (idx (ix1 j)).toInt := of_decide_eq_true h1
    rwa [show (0#32).toInt = 0 by decide] at h2
  · have h1 := (e (ix1 j)).2
    have h2 : (idx (ix1 j)).toInt < (1024#32).toInt := of_decide_eq_true h1
    rwa [show (1024#32).toInt = 1024 by decide] at h2
  · have h1 := (e (ix1 ⟨n + 1, hn⟩)).1
    rw [before_succ idx n hn] at h1
    simp only [BitVec.sle, decide_eq_true_eq] at h1
    exact h1

/-- Any two indices stand in the order of their places, as integers. -/
theorem toInt_mono (idx : Ix) (h : ∀ (n : ℕ) (hn : n + 1 < 100000), (idx (ix1 ⟨n, by omega⟩)).toInt ≤ (idx (ix1 ⟨n + 1, hn⟩)).toInt)
    (a : ℕ) (ha : a < 100000) : ∀ (k : ℕ) (hk : a + k < 100000), (idx (ix1 ⟨a, ha⟩)).toInt ≤ (idx (ix1 ⟨a + k, hk⟩)).toInt
  | 0, _ => le_refl _
  | k + 1, hk => (toInt_mono idx h a ha k (by omega)).trans (h (a + k) hk)

/-- What the value proof asks of the indices: each below 1024, and in the order of their places. -/
structure Sorted (idx : Ix) : Prop where
  lt : ∀ y, (idx y).toNat < 1024
  mono : ∀ a b : Fin 100000, a ≤ b → (idx (ix1 a)).toNat ≤ (idx (ix1 b)).toNat

/-- Under `indices_sorted` they are so. -/
theorem sorted_of_pre (x0 x2 x3 x4 x5 x6 x7 x8 x9) (idx : Ix)
    (h : Cert.Pre_indices_sorted.fn (F := F) x0 idx x2 x3 x4 x5 x6 x7 x8 x9 = fun _ => 1#1) : Sorted idx := by
  obtain ⟨h0, h1, h2⟩ := step_of_sorted x0 x2 x3 x4 x5 x6 x7 x8 x9 idx h
  have hm := toInt_mono idx h2
  have hnn : ∀ j : Fin 100000, 0 ≤ (idx (ix1 j)).toInt := fun j => by
    have h3 := hm 0 (by omega) j.val (by omega)
    have h4 := h0 ⟨0, by omega⟩ rfl
    simp only [Nat.zero_add] at h3
    exact h4.trans h3
  have hn : ∀ j : Fin 100000, (idx (ix1 j)).toInt = ((idx (ix1 j)).toNat : ℤ) := fun j => by
    have h3 := hnn j
    have h4 := (idx (ix1 j)).isLt
    rw [BitVec.toInt_eq_toNat_cond] at h3 ⊢
    split at h3 <;> split <;> omega
  refine ⟨fun y => ?_, fun a b hab => ?_⟩
  · obtain ⟨j, rfl⟩ : ∃ j : Fin 100000, y = ix1 j := ⟨y 0, eq_ix1 y⟩
    have h3 := h1 j
    rw [hn] at h3
    exact_mod_cast h3
  · have h3 := hm a.val a.isLt (b.val - a.val) (by have := b.isLt; omega)
    have h4 : (⟨a.val + (b.val - a.val), by have := b.isLt; omega⟩ : Fin 100000) = b := Fin.ext (by have : a.val ≤ b.val := hab; show a.val + (b.val - a.val) = b.val; omega)
    rw [h4, hn, hn] at h3
    exact_mod_cast h3

end Cert.Indices

end
-- ==== Proof.KernelIdeal.Loop.lean ====
/- What one grid point of the kernel does to its accumulator, and the kernel's inner loop.

   The accumulator is the scratch buffer of 1152 rows. A grid point adds the one-hot sums of its block of nodes into
   128-row windows of it: a first window starting at the multiple of 8 below the block's first index, then, by the
   loop, the windows 128 rows apart that begin at or below the block's last index. This module writes those
   updates as functions of the accumulator's contents (`afterFirst`, `afterTrip`, `afterTrips`), does the arithmetic of the
   window's start for indices below 1024, and proves that the loop's label leaves `afterTrips` behind
   (`loopSpec_le`, by induction on the trips still to run). -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The window's start, as a word -/

/-- The first window's tile number: the block's first index over 8, rounded down, as the kernel computes it on words. -/
def firstTile (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt 8#32 0#32)) (Scalar.extui (Scalar.cmpi .slt 8#32 0#32))))
      (Scalar.cmpi .ne (Scalar.remsi w 8#32) 0#32))
    (Scalar.subi (Scalar.divsi w 8#32) 1#32) (Scalar.divsi w 8#32)

/-- Below 1024 it is the index over 8. -/
theorem firstTile_ofNat : ∀ n < 1024, firstTile (BitVec.ofNat 32 n) = BitVec.ofNat 32 (n / 8) := by decide +kernel

/-- A word below 1024 is the word of its number. -/
theorem eq_ofNat (w : BitVec 32) : w = BitVec.ofNat 32 w.toNat := by simp

/-- The first tile's number, for an index below 1024. -/
theorem toNat_firstTile (w : BitVec 32) (hw : w.toNat < 1024) : (firstTile w).toNat = w.toNat / 8 := by
  rw [eq_ofNat w, firstTile_ofNat _ hw, BitVec.toNat_ofNat, BitVec.toNat_ofNat]; omega

/-- The first window's row offset is eight times its tile's number. -/
theorem off2_eq (w : BitVec 32) : k0_off2 w = ![(Scalar.muli (firstTile w) 8#32).toNat, 0] := rfl

/-- A later window's row offset is eight times its tile's number. -/
theorem off3_eq (a : BitVec 32) : k0_off3 a = ![(Scalar.muli a 8#32).toNat, 0] := rfl

/-- Eight times a small tile number, on words. -/
theorem toNat_muli (a : BitVec 32) (ha : a.toNat ≤ 143) : (Scalar.muli a 8#32).toNat = a.toNat * 8 := by
  show (a * 8#32).toNat = _
  rw [BitVec.toNat_mul, BitVec.toNat_ofNat]; omega

/-- The next trip's tile number. -/
theorem toNat_addi (a : BitVec 32) (ha : a.toNat ≤ 143) : (Scalar.addi a 16#32).toNat = a.toNat + 16 := by
  show (a + 16#32).toNat = _
  rw [BitVec.toNat_add, BitVec.toNat_ofNat]; omega

/-- The first window lies inside the accumulator. -/
theorem chk1_of_lt (w : BitVec 32) (hw : w.toNat < 1024) : k0_chk1 w := by
  unfold k0_chk1; rw [off2_eq, toNat_muli _ (by rw [toNat_firstTile w hw]; omega), toNat_firstTile w hw]
  intro a; fin_cases a
  · show w.toNat / 8 * 8 + 128 ≤ 1152; omega
  · show 0 + 256 ≤ 256; omega

/-- A later window that starts below row 1024 lies inside the accumulator. -/
theorem chk2_of_le (a : BitVec 32) (ha : a.toNat ≤ 127) : k0_chk2 a := by
  unfold k0_chk2; rw [off3_eq, toNat_muli _ (by omega)]
  intro k; fin_cases k
  · show a.toNat * 8 + 128 ≤ 1152; omega
  · show 0 + 256 ≤ 256; omega

/-- The loop's test on words is the comparison of numbers. -/
theorem test_iff (a l : BitVec 32) (ha : a.toNat ≤ 143) (hl : l.toNat < 1024) :
    Scalar.cmpi .sle (Scalar.muli a 8#32) l = 1#1 ↔ a.toNat ≤ l.toNat / 8 := by
  have hm := toNat_muli a ha
  have h1 : (Scalar.muli a 8#32).toInt = (a.toNat * 8 : ℕ) := by rw [BitVec.toInt_eq_toNat_cond, hm]; omega
  have h2 : l.toInt = (l.toNat : ℕ) := by rw [BitVec.toInt_eq_toNat_cond]; omega
  have e : ∀ p : Bool, (BitVec.ofBool p = 1#1) ↔ p = true := by decide
  show BitVec.ofBool ((Scalar.muli a 8#32).sle l) = 1#1 ↔ _
  rw [e, BitVec.sle, decide_eq_true_eq, h1, h2]; omega

/-! ## The accumulator's updates -/

/-- The accumulator's contents. -/
abbrev Acc (F : FTy → Type) : Type := (cc0_scratch0 : Ref sig .tc).ty.Contents (Elt F)

/-- The accumulator as the kernel is handed it. -/
abbrev accM : Memref sig .tc .vmem S1152x256 .f32 := Memref.whole cc0_scratch0

/-- The first window's rectangle. -/
abbrev rFirst (w : BitVec 32) (h : k0_chk1 w) : Rect S1152x256 :=
  Rect.unit (s := S1152x256) (k0_off2 w) S128x256.size (k0_off2_inb w h)

/-- A later window's rectangle. -/
abbrev rTrip (a : BitVec 32) (h : k0_chk2 a) : Rect S1152x256 :=
  Rect.unit (s := S1152x256) (k0_off3 a) S128x256.size (k0_off3_inb a h)

/-- The accumulator after the first window's update, from the block's indices `v3`, rows `x`, weights and first index. -/
def afterFirst (v3 : Vec F S1x1x10000 .i32) (x : Vec F S10000x256 .f32) (w1 : Vec F S256x256 .f32) (b1 : Vec F S1x256 .f32)
    (w2 : Vec F S256x256 .f32) (b2 : Vec F S1x256 .f32) (w : BitVec 32) (h : k0_chk1 w) (f : Acc F) : Acc F :=
  (accM.access (rFirst w h)).write (Elt F) f
    (k0_pay2 (k0_pay7 v3 w) (k0_pay8 x w1) b1 w2 b2 (accM.view.readAt (Elt F) (rFirst w h).toLoadRect f)) Finset.univ

/-- The rows' numbers of a window, in each column: what the one-hot comparison is against. -/
abbrev rowIds : IVec S128x10000 32 := iota .tc S128x10000 32 [0] iota_S128x10000_d0_w32

/-- The accumulator after one later window's update. -/
def afterTrip (v4 : IVec S1x10000 32) (xb : FVec F S10000x256 .bf16) (a : BitVec 32) (h : k0_chk2 a) (f : Acc F) : Acc F :=
  (accM.access (rTrip a h)).write (Elt F) f
    (k0_pay4 v4 rowIds xb a (accM.view.readAt (Elt F) (rTrip a h).toLoadRect f)) Finset.univ

/-- The accumulator after `k` later windows, the first of them at tile `a`. -/
def afterTrips (v4 : IVec S1x10000 32) (xb : FVec F S10000x256 .bf16) : ℕ → BitVec 32 → Acc F → Acc F
  | 0, _, f => f
  | k + 1, a, f => if h : k0_chk2 a then afterTrips v4 xb k (Scalar.addi a 16#32) (afterTrip v4 xb a h f) else f

/-- How many windows the loop visits from tile `a` with last index `l`. -/
def trips (a l : BitVec 32) : ℕ := (l.toNat / 8 + 16 - a.toNat) / 16

/-- The accumulator after a whole grid point, from what it held when the windows' updates began. -/
def afterPoint (v3 : Vec F S1x1x10000 .i32) (x : Vec F S10000x256 .f32) (w1 : Vec F S256x256 .f32) (b1 : Vec F S1x256 .f32)
    (w2 : Vec F S256x256 .f32) (b2 : Vec F S1x256 .f32) (w l : BitVec 32) (f : Acc F) : Acc F :=
  if h : k0_chk1 w then
    afterTrips (k0_pay6 v3) (k0_pay1 (k0_pay8 x w1) b1 w2 b2) (trips (Scalar.addi (firstTile w) 16#32) l)
      (Scalar.addi (firstTile w) 16#32) (afterFirst v3 x w1 b1 w2 b2 w h f)
  else f

/-! ## The loop -/

/-- The variants that bound the loop: the trips still to run. -/
abbrev 𝒱₀ : Variants := Variants.nat

section Loop

variable (c : Dev nD) (v4 : IVec S1x10000 32) (xb : FVec F S10000x256 .bf16)

/-- The accumulator held whole at `f`. -/
def held (f : Acc F) : sProp 𝕄 := iprop(((c : Thread nD τ).loc cc0_scratch0) ↦{fullShare} (f : Buf (Elt F) ((c : Thread nD τ).loc cc0_scratch0)))

/-- The loop's specification with `k` trips to run from tile `a`: from the accumulator at `f` it returns some counter
    and the accumulator after those trips. -/
def loopSpec (k : ℕ) (a : BitVec 32) (f : Acc F) : sWPT 𝕄 (BitVec 32) := do
  sWPT.consume (held c f)
  let r ← sWPT.arbitrary
  sWPT.produce (held c (afterTrips v4 xb k a f))
  pure r

theorem loopSpec_apply (k : ℕ) (a : BitVec 32) (f : Acc F) (K : BitVec 32 → sProp 𝕄) :
    loopSpec c v4 xb k a f K = iprop(held c f ∗ ∀ r : BitVec 32, (held c (afterTrips v4 xb k a f) -∗ K r)) := rfl

/-- One more trip is the trip at `a`, then the rest from the next tile. -/
theorem afterTrips_succ (k : ℕ) (a : BitVec 32) (h : k0_chk2 a) (f : Acc F) :
    afterTrips v4 xb (k + 1) a f = afterTrips v4 xb k (Scalar.addi a 16#32) (afterTrip v4 xb a h f) := by
  rw [afterTrips, dif_pos h]

/-- The loop's label, entered with `k` trips to run, meets its specification. With none left the test fails and the
    label returns; with one more the test passes, the window lies inside the accumulator, the store is the trip's
    update, and the label calls itself at the next tile with one trip fewer. -/
theorem loopSpec_le (E : Set ℕ) (i : grid0.Coords) (v9 : BitVec 32) (hw1 : k0_chk1 v9) (l : BitVec 32) (hl : l.toNat < 1024)
    (harg14 : accM.IsWhole) :
    ∀ k (a : BitVec 32), a.toNat ≤ 143 → trips a l = k → ∀ f K, loopSpec c v4 xb k a f K
      ⊢ wp frame (wpE (defs₀ (F := F)) 𝒱₀ (c : Thread nD τ) (some k)) E
          (defs₀ (F := F) .tc 1 ⟨i, v9, hw1, l, v4, rowIds, xb, accM, harg14, a⟩) K := by
  intro k
  induction k with
  | zero =>
    intro a ha hk f K
    rw [loopSpec_apply]
    show _ ⊢ wp frame (wpE (defs₀ (F := F)) 𝒱₀ (c : Thread nD τ) (some 0)) E (cc0_while1 i v9 hw1 l v4 rowIds xb accM harg14 a) K
    have htest : ¬Scalar.cmpi .sle (Scalar.muli a 8#32) l = 1#1 := by
      rw [test_iff a l ha hl]; unfold trips at hk; omega
    simp only [cc0_while1_eq_skeleton]; unfold cc0_while1_skel
    simp only [htest, ↓reduceIte, Prog.pure_eq_ret]
    iintro ⟨H, Hk⟩
    rw [wp_ret]; imodintro
    iapply Hk
    simp only [afterTrips]; iexact H
  | succ k ih =>
    intro a ha hk f K
    rw [loopSpec_apply]
    show _ ⊢ wp frame (wpE (defs₀ (F := F)) 𝒱₀ (c : Thread nD τ) (some (k + 1))) E (cc0_while1 i v9 hw1 l v4 rowIds xb accM harg14 a) K
    have hle : a.toNat ≤ l.toNat / 8 := by unfold trips at hk; omega
    have htest : Scalar.cmpi .sle (Scalar.muli a 8#32) l = 1#1 := (test_iff a l ha hl).mpr hle
    have hchk : k0_chk2 a := chk2_of_le a (by omega)
    have hnext : trips (Scalar.addi a 16#32) l = k := by
      unfold trips at hk ⊢; rw [toNat_addi a ha]; omega
    simp only [cc0_while1_eq_skeleton]; unfold cc0_while1_skel
    simp only [htest, ↓reduceIte, Prog.lift, Prog.bind_op, Prog.bind_ret, Prog.pure_eq_ret]
    unfold held
    iintro ⟨H, Hk⟩
    iapply (wp_assume 𝒱₀ (c : Thread nD τ) (some (k + 1)) E hchk)
    iapply (wp_load 𝒱₀ (c : Thread nD τ) (some (k + 1)) E (m := accM) (Finset.subset_univ _)) $$ H; iintro H
    iapply (wp_load 𝒱₀ (c : Thread nD τ) (some (k + 1)) E (m := accM) (Finset.subset_univ _)) $$ H; iintro H
    iapply (wp_store 𝒱₀ (c : Thread nD τ) (some (k + 1)) E (m := accM) (r := rTrip a hchk) (Mk := Finset.univ) (Finset.subset_univ _)) $$ H; iintro H
    iapply (wp_call_spec 𝒱₀ (c : Thread nD τ) (some (k + 1)) E (loopSpec c v4 xb k (Scalar.addi a 16#32) (afterTrip v4 xb a hchk f)) k
      (fun u hu => by cases hu; exact Nat.lt_succ_self k)
      (ih (Scalar.addi a 16#32) (by rw [toNat_addi a ha]; omega) hnext (afterTrip v4 xb a hchk f)))
    rw [loopSpec_apply]; unfold held
    isplitl [H]
    · iexact H
    iintro %r H
    rw [wp_ret]; imodintro
    iapply Hk
    rw [afterTrips_succ v4 xb k a hchk]
    iexact H

end Loop

end Cert.KernelIdeal.Seg

end
-- ==== Proof.KernelIdeal.Kit.lean ====
/- The launch's set-up: the memory the grid runs over, the prefetched words, and the pipeline's proof data.

   Before the grid starts, the host operations reshape the indices and the bias vectors and cut the two index tables
   out of the indices. `V` is what the buffers hold then, `tbl` the tables, `firstW` and `lastW` the two words a
   grid point reads from them. `accAt` is the accumulator after a number of grid points and `outVal` the output the last
   point stores; `dats` collects what each staging buffer holds after the body, which the body's proof is
   stated against. -/
module

public import proofs.«01_k».proof.Proof.KernelIdeal.Loop
public import Idealize.ShloMosaic.Lib.Claim

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the grid starts from -/

/-- What core `c`'s buffers hold when the grid starts: the launch memory after the host operations. -/
abbrev V (c : Dev nD) (b : Ref sig .tc) : Buf (Elt F) ((c : Thread nD τ).loc b) := StableHlo.after hostOps0 (fun b => m (c, b)) b

/-- No host operation draws fresh contents. -/
theorem hostOps0_fresh : (hostOps0 : List (HloOp τ sig (Elt F))).Forall fun op => op.fresh = ∅ := by
  simp only [List.Forall]; repeat' constructor

set_option maxHeartbeats 800000 in
/-- The program up to the grid is its host operations. -/
theorem hmain (𝒱 : Variants) : Pipeline.HMainP (Ix := Unit) (Name := ℕ) (U := UR sig nD τ) (Lvl := ℕ) pcfgs 0 defs₀ 𝒱 m (main (F := F)) (V m) :=
  Pipeline.hmainP_prefix pcfgs 0 defs₀ 𝒱 m main hostOps0 hostOps0_sub hostOps0_fresh main_chain

/-- A buffer that is none of the seven the host operations write is as launched. -/
theorem V_kept (c : Dev nD) (b : Ref sig .tc) (hb : b ∉ [main_v0, main_v1, main_v2, main_v3, main_v4, main_v5, main_v6]) :
    V m c b = m ((c : Thread nD τ).loc b) :=
  StableHlo.after_of_forall_not_mem (b := Proc.devRef .tc b) _ _ (List.forall_iff_forall_mem.mp (by
    simp only [List.mem_cons, List.not_mem_nil, or_false, not_or] at hb
    obtain ⟨h0, h1, h2, h3, h4, h5, h6⟩ := hb
    simp only [List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-! ## The prefetched tables -/

/-- The two tables' contents when the grid starts (there is one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables as contents the pipeline admits: no window's place depends on them. -/
abbrev adm : (pcfg0 (F := F)).Adm := ⟨tbl m, trivial⟩

/-- The pipeline at those tables. -/
abbrev cfgM : Pipeline.Cfg sig (Λ₀ F) := cfg0 (adm m)

/-- The table of first indices and the table of last indices, as the body is handed them. -/
abbrev tbFirst : Memref sig .tc .smem S10 .i32 := Memref.whole main_v1
abbrev tbLast : Memref sig .tc .smem S10 .i32 := Memref.whole main_v2

/-- A table held at half the full share. -/
abbrev tbPt (c : Dev nD) (M : Memref sig .tc .smem S10 .i32) (f : Buf (Elt F) (M.view.loc (c : Thread nD τ))) : sProp 𝕄 :=
  M.view.loc (c : Thread nD τ) ↦{fullShare.right} f

/-- The tables' share the body holds, table by table. -/
theorem PhiT_eq (c : Dev nD) : (Pipeline.ΦT pre0 (tbl m) c : sProp 𝕄) = iprop(tbPt c tbFirst (tbl m 0) ∗ tbPt c tbLast (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word a point's coordinates name in a table. -/
abbrev wordAt (M : Memref sig .tc .smem S10 .i32) (i : grid0.Coords) (f : M.view.ty.Contents (Elt F)) : BitVec 32 :=
  (M.access (Rect.unit (s := S10) (k0_off1 i) S1.size (k0_off1_inb i))).read (Elt F) f (Shape.Idx.first (numel1_S1.symm ▸ Nat.one_pos))

/-- The first index of point `t`'s block, and its last, as the point reads them. -/
def firstW (t : Fin grid0.N) : BitVec 32 := wordAt (F := F) tbFirst (grid0.coords t) (tbl m 0)
def lastW (t : Fin grid0.N) : BitVec 32 := wordAt (F := F) tbLast (grid0.coords t) (tbl m 1)

/-- What the body needs of the tables: every word is below 1024. -/
def TablesOk : Prop := ∀ t : Fin grid0.N, (firstW m t).toNat < 1024 ∧ (lastW m t).toNat < 1024

/-! ## The blocks, the accumulator and the output -/

/-- Window `w`'s block at point `t`, read off its array as the grid finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The accumulator after the first `n` points, from the zeroed scratch. -/
def accAt (c : Dev nD) : ℕ → Acc F
  | 0 => k0_pay5
  | n + 1 => if h : n < grid0.N then
      afterPoint (iblk m c 1 ⟨n, h⟩) (iblk m c 0 ⟨n, h⟩) (iblk m c 2 ⟨n, h⟩) (iblk m c 3 ⟨n, h⟩) (iblk m c 4 ⟨n, h⟩) (iblk m c 5 ⟨n, h⟩)
        (firstW m ⟨n, h⟩) (lastW m ⟨n, h⟩) (accAt c n)
    else accAt c n

/-- One more point is that point's update. -/
theorem accAt_succ (c : Dev nD) (t : Fin grid0.N) : accAt m c (t.val + 1)
    = afterPoint (iblk m c 1 t) (iblk m c 0 t) (iblk m c 2 t) (iblk m c 3 t) (iblk m c 4 t) (iblk m c 5 t) (firstW m t) (lastW m t) (accAt m c t.val) := by
  rw [accAt, dif_pos t.isLt]

/-- The first 1024 rows of the accumulator. -/
abbrev rOut : Rect S1152x256 := Rect.unit (s := S1152x256) ![0, 0] S1024x256.size inb_S1152x256_S1024x256_0_0

/-- The output the last layers make of the accumulator `f`. -/
def lastLayers (w1 : Vec F S256x256 .f32) (b1 : Vec F S1x256 .f32) (w2 : Vec F S256x256 .f32) (b2 : Vec F S1x256 .f32) (f : Acc F) : Vec F S1024x256 .f32 :=
  k0_pay3 (accM.view.readAt (Elt F) rOut.toLoadRect f) w1 b1 w2 b2

/-- What the output's staging buffer holds after point `t`, at the point that stores it. -/
def outVal (c : Dev nD) (t : Fin grid0.N) : Vec F S1024x256 .f32 :=
  lastLayers (iblk m c 6 t) (iblk m c 7 t) (iblk m c 8 t) (iblk m c 9 t) (accAt m c (t.val + 1))

/-! ## The proof data -/

/-- What holds between points: the accumulator is `accAt` once a point has run (before that it is anything), beside the
    generator's register and the tables. -/
def Inv (c : Dev nD) (n : ℕ) : sProp 𝕄 :=
  iprop((∃ f : Acc F, ⌜n ≠ 0 → f = accAt m c n⌝ ∗ held c f) ∗ (∃ r, prngReg c r) ∗ Pipeline.ΦT pre0 (tbl m) c)

/-- The pipeline's proof data: the arrays as the grid finds them, each input's staging buffer left at its block, the
    output's at `outVal`, and `Inv` between points. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outVal m c t
  Φ t := Inv m c t.val
  q _ := fullShare
  owed _ := 0

theorem A_eq (c : Dev nD) (w : Fin (cfgM m).W) : (dats m 0 c).A w = V m c (Pipeline.arrRef spec0 w) := by
  dsimp only [dats]

/-! What the body leaves in each window's staging buffer. -/

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl
theorem after_7 (c : Dev nD) (t : Fin (cfgM m).N) : (dats m 0 c).after 7 t = iblk m c 7 t := by dsimp only [dats]; try rfl
theorem after_8 (c : Dev nD) (t : Fin (cfgM m).N) : (dats m 0 c).after 8 t = iblk m c 8 t := by dsimp only [dats]; try rfl
theorem after_9 (c : Dev nD) (t : Fin (cfgM m).N) : (dats m 0 c).after 9 t = iblk m c 9 t := by dsimp only [dats]; try rfl
theorem after_10 (c : Dev nD) (t : Fin (cfgM m).N) : (dats m 0 c).after 10 t = outVal m c t := by dsimp only [dats]; try rfl

/-! Each input's staging buffer holds its block when the body runs, whether or not it was fetched at this point. -/

theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin (cfgM m).N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin (cfgM m).N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin (cfgM m).N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin (cfgM m).N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)

/-! ## The body's two conditions -/

/-- The condition under which the body zeroes the accumulator. -/
abbrev condZero (i : grid0.Coords) : Prop :=
  Scalar.cmpi .ne (Scalar.extui (Scalar.cmpi .eq (BitVec.ofNat 32 (i 0).val) 0#32)) 0#32 = 1#1

/-- It holds at the first point only. -/
theorem condZero_iff : ∀ t : Fin grid0.N, condZero (grid0.coords t) ↔ t.val = 0 := by decide +kernel

/-- The condition under which the body stores the output. -/
abbrev condOut (i : grid0.Coords) : Prop := k0_cond2 i = 1#1

/-- It holds at the last point only. -/
theorem condOut_iff : ∀ t : Fin grid0.N, condOut (grid0.coords t) ↔ t.val = 9 := by decide +kernel

/-! ## Which windows a point leaves alone -/

/-- An input's buffer is used at every point. -/
theorem live_in (w : Fin (cfgM m).W) (hw : w.val < 10) (t : Fin (cfgM m).N) : (cfgM m).idle w (grid0.coords t) = false := by
  have h : ∀ (w : Fin 11), w.val < 10 → ∀ t : Fin grid0.N, idle0 w (grid0.coords t) = false := by decide +kernel
  exact h w hw t

/-- The output's buffer is left alone, and not written back, at the points that do not store it. -/
theorem idle_out : ∀ t : Fin (cfgM m).N, ¬condOut (grid0.coords t) → (cfgM m).idle 10 (grid0.coords t) = true :=
  (by decide +kernel : ∀ t : Fin grid0.N, ¬condOut (grid0.coords t) → idle0 10 (grid0.coords t) = true)
theorem noFlush_out : ∀ t : Fin (cfgM m).N, ¬condOut (grid0.coords t) → ((cfgM m).win 10).flush t = false :=
  (by decide +kernel : ∀ t : Fin grid0.N, ¬condOut (grid0.coords t) → Pipeline.Window.flushOf grid0 true cc0_transform_10 t = false)
theorem live_out : ∀ t : Fin (cfgM m).N, condOut (grid0.coords t) → (cfgM m).idle 10 (grid0.coords t) = false :=
  (by decide +kernel : ∀ t : Fin grid0.N, condOut (grid0.coords t) → idle0 10 (grid0.coords t) = false)

/-! ## The staging buffers a point is handed -/

abbrev ms_0 (t : Fin (cfgM m).N) : Memref sig .tc .vmem S10000x256 .f32 := spec0_0.stage ((cfgM m).slots t 0)
abbrev hs_0 (t : Fin (cfgM m).N) : (ms_0 m t).IsWhole := hstage0_0 (((cfgM m).slots t 0).cast nbuf0_0)
abbrev ms_1 (t : Fin (cfgM m).N) : Memref sig .tc .vmem S1x1x10000 .i32 := spec0_1.stage ((cfgM m).slots t 1)
abbrev hs_1 (t : Fin (cfgM m).N) : (ms_1 m t).IsWhole := hstage0_1 (((cfgM m).slots t 1).cast nbuf0_1)
abbrev ms_2 (t : Fin (cfgM m).N) : Memref sig .tc .vmem S256x256 .f32 := spec0_2.stage ((cfgM m).slots t 2)
abbrev hs_2 (t : Fin (cfgM m).N) : (ms_2 m t).IsWhole := hstage0_2 (((cfgM m).slots t 2).cast nbuf0_2)
abbrev ms_3 (t : Fin (cfgM m).N) : Memref sig .tc .vmem S1x256 .f32 := spec0_3.stage ((cfgM m).slots t 3)
abbrev hs_3 (t : Fin (cfgM m).N) : (ms_3 m t).IsWhole := hstage0_3 (((cfgM m).slots t 3).cast nbuf0_3)
abbrev ms_4 (t : Fin (cfgM m).N) : Memref sig .tc .vmem S256x256 .f32 := spec0_4.stage ((cfgM m).slots t 4)
abbrev hs_4 (t : Fin (cfgM m).N) : (ms_4 m t).IsWhole := hstage0_4 (((cfgM m).slots t 4).cast nbuf0_4)
abbrev ms_5 (t : Fin (cfgM m).N) : Memref sig .tc .vmem S1x256 .f32 := spec0_5.stage ((cfgM m).slots t 5)
abbrev hs_5 (t : Fin (cfgM m).N) : (ms_5 m t).IsWhole := hstage0_5 (((cfgM m).slots t 5).cast nbuf0_5)
abbrev ms_6 (t : Fin (cfgM m).N) : Memref sig .tc .vmem S256x256 .f32 := spec0_6.stage ((cfgM m).slots t 6)
abbrev hs_6 (t : Fin (cfgM m).N) : (ms_6 m t).IsWhole := hstage0_6 (((cfgM m).slots t 6).cast nbuf0_6)
abbrev ms_7 (t : Fin (cfgM m).N) : Memref sig .tc .vmem S1x256 .f32 := spec0_7.stage ((cfgM m).slots t 7)
abbrev hs_7 (t : Fin (cfgM m).N) : (ms_7 m t).IsWhole := hstage0_7 (((cfgM m).slots t 7).cast nbuf0_7)
abbrev ms_8 (t : Fin (cfgM m).N) : Memref sig .tc .vmem S256x256 .f32 := spec0_8.stage ((cfgM m).slots t 8)
abbrev hs_8 (t : Fin (cfgM m).N) : (ms_8 m t).IsWhole := hstage0_8 (((cfgM m).slots t 8).cast nbuf0_8)
abbrev ms_9 (t : Fin (cfgM m).N) : Memref sig .tc .vmem S1x256 .f32 := spec0_9.stage ((cfgM m).slots t 9)
abbrev hs_9 (t : Fin (cfgM m).N) : (ms_9 m t).IsWhole := hstage0_9 (((cfgM m).slots t 9).cast nbuf0_9)
abbrev ms_10 (t : Fin (cfgM m).N) : Memref sig .tc .vmem S1024x256 .f32 := spec0_10.stage ((cfgM m).slots t 10)
abbrev hs_10 (t : Fin (cfgM m).N) : (ms_10 m t).IsWhole := hstage0_10 (((cfgM m).slots t 10).cast nbuf0_10)

/-- The body as the pipeline calls it at point `t`. -/
abbrev bodyAt (t : Fin (cfgM m).N) : Prog (TpuEff nD τ sig (Elt F) (Λ₀ F) .tc) PUnit :=
  cc0__fused_kernel (grid0.coords t) tbFirst (Memref.isWhole_whole _) tbLast (Memref.isWhole_whole _)
    (ms_0 m t) (hs_0 m t)
    (ms_1 m t) (hs_1 m t)
    (ms_2 m t) (hs_2 m t)
    (ms_3 m t) (hs_3 m t)
    (ms_4 m t) (hs_4 m t)
    (ms_5 m t) (hs_5 m t)
    (ms_6 m t) (hs_6 m t)
    (ms_7 m t) (hs_7 m t)
    (ms_8 m t) (hs_8 m t)
    (ms_9 m t) (hs_9 m t)
    (ms_10 m t) (hs_10 m t)
    accM (Memref.isWhole_whole _)

/-- The body table's row at point `t` is that call. -/
theorem defs₀_row (t : Fin (cfgM m).N) :
    defs₀ (F := F) .tc (cfgM m).body ((cfgM m).bodyArgs t ((cfgM m).slots t)) = bodyAt m t := by
  unfold defs₀; rw [Defs.onTc_tc]

end Cert.KernelIdeal.Seg

end
-- ==== Proof.KernelIdeal.Body.lean ====
/- What one call of the kernel's body does, and the pipeline's obligation for it.

   `body_run` runs the body once: from the input blocks, the two words of the tables and the accumulator it leaves the
   accumulator at `afterPoint` of the zeroed or the handed-in contents, and at the point that stores it the output at
   `lastLayers` of that. `body_obligation` restates it at every point of the grid for the proof data of
   Kit.lean. -/
module

public import proofs.«01_k».proof.Proof.KernelIdeal.Kit
public import Idealize.ShloMosaic.Lib.Pipeline.Value

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores of whole buffers -/

section Whole

variable (c : Dev nD) {s : Shape} {e : EltTy} {M : Memref sig .tc .vmem s e} {off : Fin s.rank → ℕ}
  {inb : ∀ a, off a + s.size a ≤ s.size a}

/-- A load of the whole of a held buffer answers its contents. -/
theorem wp_load_owned {hl : M.view.LoadsAt (Rect.unit off s.size inb).toLoadRect} {X : s.Idx → Elt F e}
    {k : (s.Idx → Elt F e) → Prog (TpuEff nD τ sig (Elt F) (Λ₀ F) .tc) PUnit} {Q : PUnit → sProp 𝕄}
    (hz : ∀ a, off a = 0) :
    owns (c : Thread nD τ) M fullShare X
      ⊢ iprop((owns (c : Thread nD τ) M fullShare X -∗ wp frame (wpE (defs₀ (F := F)) 𝒱₀ (c : Thread nD τ) none) Set.univ (k X) Q)
        -∗ wp frame (wpE (defs₀ (F := F)) 𝒱₀ (c : Thread nD τ) none) Set.univ (.op (.load M (Rect.unit off s.size inb).toLoadRect hl) k) Q) := by
  unfold owns
  iintro ⟨%f, %hf, H⟩ Hk
  iapply (wp_load 𝒱₀ (c : Thread nD τ) none Set.univ (m := M) (S := M.view.set) (View.setOn_subset_set _ _)) $$ H; iintro H
  rw [show M.view.readAt (Elt F) (Rect.unit off s.size inb).toLoadRect f = X from by
    subst hf; exact View.ld_unit_zero (funext hz) inb _]
  iapply Hk
  iexists f; isplitr
  · ipureintro; exact hf
  iexact H

/-- A store over the whole of a held buffer leaves it at what was stored. -/
theorem wp_store_owned {w X : s.Idx → Elt F e} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) (Λ₀ F) .tc) PUnit} {Q : PUnit → sProp 𝕄}
    (hz : ∀ a, off a = 0) :
    owns (c : Thread nD τ) M fullShare X
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit off s.size inb) w Finset.univ hx hm) k) Q) := by
  unfold owns
  iintro ⟨%f, %hf, H⟩ Hk
  iapply (wp_store 𝒱₀ (c : Thread nD τ) none Set.univ (m := M) (r := Rect.unit off s.size inb) (S := M.view.set) (View.set_slice_subset _ _)) $$ H; iintro H
  iapply Hk
  iexists _; isplitr
  swap; · iexact H
  ipureintro
  exact (View.read_writes_eq_canon M.view f [⟨Rect.unit off s.size inb, w⟩]
    (fun y => ⟨_, List.mem_singleton_self _, View.mem_set_unit_zero (funext hz) inb y⟩)).trans (View.canon_unit_zero (funext hz) inb w)

omit M off inb s e in
/-- A store over the whole accumulator leaves it at what was stored. -/
theorem wp_store_acc {f w : Acc F} {hx : (accM.access (Rect.unit (s := S1152x256) ![0, 0] S1152x256.size inb_S1152x256_S1152x256_0_0)).Stores Finset.univ}
    {hm : (Finset.univ : Finset (Rect.unit (s := S1152x256) ![0, 0] S1152x256.size inb_S1152x256_S1152x256_0_0).shape.Idx) = Finset.univ
      ∨ ∀ a, (Rect.unit (s := S1152x256) ![0, 0] S1152x256.size inb_S1152x256_S1152x256_0_0).stride a = 1}
    {k : PUnit → Prog (TpuEff nD τ sig (Elt F) (Λ₀ F) .tc) PUnit} {Q : PUnit → sProp 𝕄} :
    held c f
      ⊢ iprop((held c w -∗ wp frame (wpE (defs₀ (F := F)) 𝒱₀ (c : Thread nD τ) none) Set.univ (k ⟨⟩) Q)
        -∗ wp frame (wpE (defs₀ (F := F)) 𝒱₀ (c : Thread nD τ) none) Set.univ
            (.op (.store accM (Rect.unit (s := S1152x256) ![0, 0] S1152x256.size inb_S1152x256_S1152x256_0_0) w Finset.univ hx hm) k) Q) := by
  unfold held
  iintro H Hk
  iapply (wp_store 𝒱₀ (c : Thread nD τ) none Set.univ (m := accM)
    (r := Rect.unit (s := S1152x256) ![0, 0] S1152x256.size inb_S1152x256_S1152x256_0_0) (Mk := Finset.univ) (Finset.subset_univ _)) $$ H; iintro H
  iapply Hk
  rw [show (accM.access (Rect.unit (s := S1152x256) ![0, 0] S1152x256.size inb_S1152x256_S1152x256_0_0)).write (Elt F) f w Finset.univ = w from
    Memref.write_access_unit_zero_univ (Elt F) cc0_scratch0 (funext fun a => by fin_cases a <;> rfl) _ f w]
  iexact H

/-- A load of the accumulator through a rectangle. -/
theorem wp_load_acc {f : Acc F} {r : Rect S1152x256} {hl : accM.view.LoadsAt r.toLoadRect}
    {k : (r.shape.Idx → Elt F .f32) → Prog (TpuEff nD τ sig (Elt F) (Λ₀ F) .tc) PUnit} {Q : PUnit → sProp 𝕄} :
    held c f
      ⊢ iprop((held c f -∗ wp frame (wpE (defs₀ (F := F)) 𝒱₀ (c : Thread nD τ) none) Set.univ (k (accM.view.readAt (Elt F) r.toLoadRect f)) Q)
        -∗ wp frame (wpE (defs₀ (F := F)) 𝒱₀ (c : Thread nD τ) none) Set.univ (.op (.load accM r.toLoadRect hl) k) Q) := by
  unfold held
  exact wp_load 𝒱₀ (c : Thread nD τ) none Set.univ (m := accM) (Finset.subset_univ _)

/-- A store to the accumulator through a rectangle. -/
theorem wp_store_part {f : Acc F} {r : Rect S1152x256} {w : r.shape.Idx → Elt F .f32} {hx : (accM.access r).Stores Finset.univ}
    {hm : (Finset.univ : Finset r.shape.Idx) = Finset.univ ∨ ∀ a, r.stride a = 1}
    {k : PUnit → Prog (TpuEff nD τ sig (Elt F) (Λ₀ F) .tc) PUnit} {Q : PUnit → sProp 𝕄} :
    held c f
      ⊢ iprop((held c ((accM.access r).write (Elt F) f w Finset.univ) -∗ wp frame (wpE (defs₀ (F := F)) 𝒱₀ (c : Thread nD τ) none) Set.univ (k ⟨⟩) Q)
        -∗ wp frame (wpE (defs₀ (F := F)) 𝒱₀ (c : Thread nD τ) none) Set.univ (.op (.store accM r w Finset.univ hx hm) k) Q) := by
  unfold held
  iintro H Hk
  iapply (wp_store 𝒱₀ (c : Thread nD τ) none Set.univ (m := accM) (r := r) (Mk := Finset.univ) (Finset.subset_univ _)) $$ H; iintro H
  iapply Hk
  iexact H

/-- A load of a table's word: the word the load answers is `wordAt`'s. -/
theorem wp_load_word (i : grid0.Coords) {M : Memref sig .tc .smem S10 .i32} {T : Buf (Elt F) (M.view.loc (c : Thread nD τ))} {w : BitVec 32}
    {hl : M.view.LoadsAt (Rect.unit (s := S10) (k0_off1 i) S1.size (k0_off1_inb i)).toLoadRect}
    {k : (S1.Idx → Elt F .i32) → Prog (TpuEff nD τ sig (Elt F) (Λ₀ F) .tc) PUnit} {Q : PUnit → sProp 𝕄}
    (hw : wordAt (F := F) M i T = w) :
    tbPt c M T
      ⊢ iprop((tbPt c M T -∗ ∀ f : S1.Idx → Elt F .i32, ⌜f (Shape.Idx.first (numel1_S1.symm ▸ Nat.one_pos)) = w⌝
          -∗ wp frame (wpE (defs₀ (F := F)) 𝒱₀ (c : Thread nD τ) none) Set.univ (k f) Q)
        -∗ wp frame (wpE (defs₀ (F := F)) 𝒱₀ (c : Thread nD τ) none) Set.univ
            (.op (.load M (Rect.unit (s := S10) (k0_off1 i) S1.size (k0_off1_inb i)).toLoadRect hl) k) Q) := by
  iintro H Hk
  iapply (wp_load 𝒱₀ (c : Thread nD τ) none Set.univ (m := M) (Finset.subset_univ _)) $$ H; iintro H
  iapply Hk $$ H
  ipureintro; exact hw

omit M off inb s e in
/-- The call of the loop's label: it runs the later windows' updates. -/
theorem wp_loop (i : grid0.Coords) {w l : BitVec 32} (hw : w.toNat < 1024) (hl : l.toNat < 1024) (hw1 : k0_chk1 w) {v4 : IVec S1x10000 32}
    {xb : FVec F S10000x256 .bf16} {h14 : accM.IsWhole} {f : Acc F}
    {k : BitVec 32 → Prog (TpuEff nD τ sig (Elt F) (Λ₀ F) .tc) PUnit} {Q : PUnit → sProp 𝕄} :
    held c f
      ⊢ iprop((held c (afterTrips v4 xb (trips (Scalar.addi (firstTile w) 16#32) l) (Scalar.addi (firstTile w) 16#32) f)
            -∗ ∀ r : BitVec 32, wp frame (wpE (defs₀ (F := F)) 𝒱₀ (c : Thread nD τ) none) Set.univ (k r) Q)
        -∗ wp frame (wpE (defs₀ (F := F)) 𝒱₀ (c : Thread nD τ) none) Set.univ
            (.op (.call (1 : (Λ₀ F).Label) ⟨i, w, hw1, l, v4, rowIds, xb, accM, h14, Scalar.addi (firstTile w) 16#32⟩) k) Q) := by
  have ht : (firstTile w).toNat ≤ 127 := by rw [toNat_firstTile w hw]; omega
  iintro H Hk
  iapply (wp_call_spec 𝒱₀ (c : Thread nD τ) none Set.univ
    (loopSpec c v4 xb (trips (Scalar.addi (firstTile w) 16#32) l) (Scalar.addi (firstTile w) 16#32) f)
    (trips (Scalar.addi (firstTile w) 16#32) l) (fun u hu => by cases hu)
    (loopSpec_le c v4 xb Set.univ i w hw1 l hl h14 _ (Scalar.addi (firstTile w) 16#32) (by rw [toNat_addi _ (by omega)]; omega) rfl f))
  rw [loopSpec_apply]
  isplitl [H]
  · iexact H
  iintro %r H
  iapply Hk $$ H

end Whole

/-! ## The body -/

section Run

variable (c : Dev nD) (i : grid0.Coords)
  (arg3 : Memref sig .tc .vmem S10000x256 .f32) (harg3 : arg3.IsWhole) (arg4 : Memref sig .tc .vmem S1x1x10000 .i32) (harg4 : arg4.IsWhole)
  (arg5 : Memref sig .tc .vmem S256x256 .f32) (harg5 : arg5.IsWhole) (arg6 : Memref sig .tc .vmem S1x256 .f32) (harg6 : arg6.IsWhole)
  (arg7 : Memref sig .tc .vmem S256x256 .f32) (harg7 : arg7.IsWhole) (arg8 : Memref sig .tc .vmem S1x256 .f32) (harg8 : arg8.IsWhole)
  (arg9 : Memref sig .tc .vmem S256x256 .f32) (harg9 : arg9.IsWhole) (arg10 : Memref sig .tc .vmem S1x256 .f32) (harg10 : arg10.IsWhole)
  (arg11 : Memref sig .tc .vmem S256x256 .f32) (harg11 : arg11.IsWhole) (arg12 : Memref sig .tc .vmem S1x256 .f32) (harg12 : arg12.IsWhole)
  (arg13 : Memref sig .tc .vmem S1024x256 .f32) (harg13 : arg13.IsWhole) (harg14 : accM.IsWhole)
  (x0 : Vec F S10000x256 .f32) (x1 : Vec F S1x1x10000 .i32) (x2 : Vec F S256x256 .f32) (x3 : Vec F S1x256 .f32) (x4 : Vec F S256x256 .f32)
  (x5 : Vec F S1x256 .f32) (x6 : Vec F S256x256 .f32) (x7 : Vec F S1x256 .f32) (x8 : Vec F S256x256 .f32) (x9 : Vec F S1x256 .f32)
  (T0 : Buf (Elt F) (tbFirst.view.loc (c : Thread nD τ))) (T1 : Buf (Elt F) (tbLast.view.loc (c : Thread nD τ)))

/-- The inputs' buffers and the tables, as the body holds them throughout. -/
def inputs : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5
    ∗ owns (c : Thread nD τ) arg9 fullShare x6 ∗ owns (c : Thread nD τ) arg10 fullShare x7 ∗ owns (c : Thread nD τ) arg11 fullShare x8
    ∗ owns (c : Thread nD τ) arg12 fullShare x9 ∗ tbPt c tbFirst T0 ∗ tbPt c tbLast T1)

/-- The accumulator when a point's updates begin: zeroed at the first point, as handed in elsewhere. -/
def entering (g : Acc F) : Acc F := if condZero i then k0_pay5 else g

/-- What the output's buffer holds after the body: the last layers of the accumulator where they are stored, as before elsewhere. -/
def leaving (d : Vec F S1024x256 .f32) (f : Acc F) : Vec F S1024x256 .f32 := if condOut i then lastLayers x6 x7 x8 x9 f else d

set_option maxHeartbeats 4000000 in
/-- One run of the body. -/
theorem body_run (wF wL : BitVec 32) (hF : wordAt (F := F) tbFirst i T0 = wF) (hL : wordAt (F := F) tbLast i T1 = wL)
    (hwF : wF.toNat < 1024) (hwL : wL.toNat < 1024) (g : Acc F) (d : Vec F S1024x256 .f32) (K : PUnit → sProp 𝕄) :
    iprop(inputs c arg3 arg4 arg5 arg6 arg7 arg8 arg9 arg10 arg11 arg12 x0 x1 x2 x3 x4 x5 x6 x7 x8 x9 T0 T1
        ∗ owns (c : Thread nD τ) arg13 fullShare d ∗ held c g
        ∗ (iprop(inputs c arg3 arg4 arg5 arg6 arg7 arg8 arg9 arg10 arg11 arg12 x0 x1 x2 x3 x4 x5 x6 x7 x8 x9 T0 T1
            ∗ owns (c : Thread nD τ) arg13 fullShare (leaving i x6 x7 x8 x9 d (afterPoint x1 x0 x2 x3 x4 x5 wF wL (entering i g)))
            ∗ held c (afterPoint x1 x0 x2 x3 x4 x5 wF wL (entering i g))) -∗ K ⟨⟩))
      ⊢ wp frame (wpE (defs₀ (F := F)) 𝒱₀ (c : Thread nD τ) none) Set.univ
          (cc0__fused_kernel i tbFirst (Memref.isWhole_whole _) tbLast (Memref.isWhole_whole _) arg3 harg3 arg4 harg4 arg5 harg5 arg6 harg6
            arg7 harg7 arg8 harg8 arg9 harg9 arg10 harg10 arg11 harg11 arg12 harg12 arg13 harg13 accM harg14) K := by
  have hchk : k0_chk1 wF := chk1_of_lt wF hwF
  have hz2 : ∀ a, (![0, 0] : Fin 2 → ℕ) a = 0 := by decide
  have hz3 : ∀ a, (![0, 0, 0] : Fin 3 → ℕ) a = 0 := by decide
  simp only [cc0__fused_kernel_eq_skeleton]; unfold cc0__fused_kernel_skel
  simp only [k0_part1_eq_skeleton]; unfold k0_part1_skel
  unfold inputs
  iintro ⟨⟨H0, H1, H2, H3, H4, H5, H6, H7, H8, H9, HT0, HT1⟩, H10, HS, Hk⟩
  by_cases hc0 : condZero i <;> by_cases hc1 : condOut i
  all_goals
    simp only [hc0, hc1, if_true, if_false, dite_true, dite_false, Prog.lift, Prog.bind_op, Prog.bind_ret, Prog.pure_eq_ret,
      smemLoad, smemLoadElt]
  · have he : entering i g = k0_pay5 := if_pos hc0
    have hl : ∀ f, leaving i x6 x7 x8 x9 d f = lastLayers x6 x7 x8 x9 f := fun f => if_pos hc1
    rw [he, hl]
    iapply (wp_load_acc c) $$ HS; iintro HS
    iapply (wp_store_acc c) $$ HS; iintro HS
    iapply (wp_load_owned c hz3) $$ H1; iintro H1
    iapply (wp_load_word c i hL) $$ HT1; iintro HT1 %fL %hfL; subst hfL
    iapply (wp_load_word c i hF) $$ HT0; iintro HT0 %fF %hfF; subst hfF
    iapply (wp_assume 𝒱₀ (c : Thread nD τ) none Set.univ hchk)
    iapply (wp_load_owned c hz2) $$ H0; iintro H0
    iapply (wp_load_owned c hz2) $$ H2; iintro H2
    iapply (wp_load_owned c hz2) $$ H3; iintro H3
    iapply (wp_load_owned c hz2) $$ H4; iintro H4
    iapply (wp_load_owned c hz2) $$ H5; iintro H5
    iapply (wp_load_acc c) $$ HS; iintro HS
    iapply (wp_load_acc c) $$ HS; iintro HS
    iapply (wp_store_part c (r := rFirst _ hchk)) $$ HS; iintro HS
    iapply (wp_loop c i hwF hwL hchk) $$ HS; iintro HS %r
    unfold afterPoint; rw [dif_pos hchk]; unfold afterFirst
    iapply (wp_load_acc c) $$ HS; iintro HS
    iapply (wp_load_owned c hz2) $$ H6; iintro H6
    iapply (wp_load_owned c hz2) $$ H7; iintro H7
    iapply (wp_load_owned c hz2) $$ H8; iintro H8
    iapply (wp_load_owned c hz2) $$ H9; iintro H9
    iapply (wp_load_owned c hz2) $$ H10; iintro H10
    iapply (wp_store_owned c hz2) $$ H10; iintro H10
    rw [wp_ret]; imodintro
    iapply Hk
    isplitr [H10 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HT0]; · iexact HT0
      iexact HT1
    isplitl [H10]
    · iexact H10
    iexact HS
  · have he : entering i g = k0_pay5 := if_pos hc0
    have hl : ∀ f, leaving i x6 x7 x8 x9 d f = d := fun f => if_neg hc1
    rw [he, hl]
    iapply (wp_load_acc c) $$ HS; iintro HS
    iapply (wp_store_acc c) $$ HS; iintro HS
    iapply (wp_load_owned c hz3) $$ H1; iintro H1
    iapply (wp_load_word c i hL) $$ HT1; iintro HT1 %fL %hfL; subst hfL
    iapply (wp_load_word c i hF) $$ HT0; iintro HT0 %fF %hfF; subst hfF
    iapply (wp_assume 𝒱₀ (c : Thread nD τ) none Set.univ hchk)
    iapply (wp_load_owned c hz2) $$ H0; iintro H0
    iapply (wp_load_owned c hz2) $$ H2; iintro H2
    iapply (wp_load_owned c hz2) $$ H3; iintro H3
    iapply (wp_load_owned c hz2) $$ H4; iintro H4
    iapply (wp_load_owned c hz2) $$ H5; iintro H5
    iapply (wp_load_acc c) $$ HS; iintro HS
    iapply (wp_load_acc c) $$ HS; iintro HS
    iapply (wp_store_part c (r := rFirst _ hchk)) $$ HS; iintro HS
    iapply (wp_loop c i hwF hwL hchk) $$ HS; iintro HS %r
    unfold afterPoint; rw [dif_pos hchk]; unfold afterFirst
    rw [wp_ret]; imodintro
    iapply Hk
    isplitr [H10 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HT0]; · iexact HT0
      iexact HT1
    isplitl [H10]
    · iexact H10
    iexact HS
  · have he : entering i g = g := if_neg hc0
    have hl : ∀ f, leaving i x6 x7 x8 x9 d f = lastLayers x6 x7 x8 x9 f := fun f => if_pos hc1
    rw [he, hl]
    iapply (wp_load_owned c hz3) $$ H1; iintro H1
    iapply (wp_load_word c i hL) $$ HT1; iintro HT1 %fL %hfL; subst hfL
    iapply (wp_load_word c i hF) $$ HT0; iintro HT0 %fF %hfF; subst hfF
    iapply (wp_assume 𝒱₀ (c : Thread nD τ) none Set.univ hchk)
    iapply (wp_load_owned c hz2) $$ H0; iintro H0
    iapply (wp_load_owned c hz2) $$ H2; iintro H2
    iapply (wp_load_owned c hz2) $$ H3; iintro H3
    iapply (wp_load_owned c hz2) $$ H4; iintro H4
    iapply (wp_load_owned c hz2) $$ H5; iintro H5
    iapply (wp_load_acc c) $$ HS; iintro HS
    iapply (wp_load_acc c) $$ HS; iintro HS
    iapply (wp_store_part c (r := rFirst _ hchk)) $$ HS; iintro HS
    iapply (wp_loop c i hwF hwL hchk) $$ HS; iintro HS %r
    unfold afterPoint; rw [dif_pos hchk]; unfold afterFirst
    iapply (wp_load_acc c) $$ HS; iintro HS
    iapply (wp_load_owned c hz2) $$ H6; iintro H6
    iapply (wp_load_owned c hz2) $$ H7; iintro H7
    iapply (wp_load_owned c hz2) $$ H8; iintro H8
    iapply (wp_load_owned c hz2) $$ H9; iintro H9
    iapply (wp_load_owned c hz2) $$ H10; iintro H10
    iapply (wp_store_owned c hz2) $$ H10; iintro H10
    rw [wp_ret]; imodintro
    iapply Hk
    isplitr [H10 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HT0]; · iexact HT0
      iexact HT1
    isplitl [H10]
    · iexact H10
    iexact HS
  · have he : entering i g = g := if_neg hc0
    have hl : ∀ f, leaving i x6 x7 x8 x9 d f = d := fun f => if_neg hc1
    rw [he, hl]
    iapply (wp_load_owned c hz3) $$ H1; iintro H1
    iapply (wp_load_word c i hL) $$ HT1; iintro HT1 %fL %hfL; subst hfL
    iapply (wp_load_word c i hF) $$ HT0; iintro HT0 %fF %hfF; subst hfF
    iapply (wp_assume 𝒱₀ (c : Thread nD τ) none Set.univ hchk)
    iapply (wp_load_owned c hz2) $$ H0; iintro H0
    iapply (wp_load_owned c hz2) $$ H2; iintro H2
    iapply (wp_load_owned c hz2) $$ H3; iintro H3
    iapply (wp_load_owned c hz2) $$ H4; iintro H4
    iapply (wp_load_owned c hz2) $$ H5; iintro H5
    iapply (wp_load_acc c) $$ HS; iintro HS
    iapply (wp_load_acc c) $$ HS; iintro HS
    iapply (wp_store_part c (r := rFirst _ hchk)) $$ HS; iintro HS
    iapply (wp_loop c i hwF hwL hchk) $$ HS; iintro HS %r
    unfold afterPoint; rw [dif_pos hchk]; unfold afterFirst
    rw [wp_ret]; imodintro
    iapply Hk
    isplitr [H10 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HT0]; · iexact HT0
      iexact HT1
    isplitl [H10]
    · iexact H10
    iexact HS

end Run

end Cert.KernelIdeal.Seg

end
-- ==== Proof.KernelIdeal.Run.lean ====
/- The run of the program: the obligation at every grid point, the launch, and the frame.

   `sound_body` is the body's run at a point of the grid, for the proof data of Kit.lean; `run_main` is the launch,
   whose final states have the output array at what the proof data says of it and the semaphores' counters at zero;
   `frame` reads off it that the argument arrays end as they began. All of it is under `TablesOk`: the words of the two
   tables are below 1024. -/
module

public import proofs.«01_k».proof.Proof.KernelIdeal.Body

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point of the grid -/

/-- What the body is called with at point `t`. -/
def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ d, owns (c : Thread nD τ) (ms_5 m t) fullShare ((dats m 0 c).before 5 t d))
    ∗ (∃ d, owns (c : Thread nD τ) (ms_6 m t) fullShare ((dats m 0 c).before 6 t d))
    ∗ (∃ d, owns (c : Thread nD τ) (ms_7 m t) fullShare ((dats m 0 c).before 7 t d))
    ∗ (∃ d, owns (c : Thread nD τ) (ms_8 m t) fullShare ((dats m 0 c).before 8 t d))
    ∗ (∃ d, owns (c : Thread nD τ) (ms_9 m t) fullShare ((dats m 0 c).before 9 t d))
    ∗ (∃ d, owns (c : Thread nD τ) (ms_10 m t) fullShare ((dats m 0 c).before 10 t d)))

/-- What it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The inputs' buffers are left at their blocks. -/
theorem leaves_0 (c : Dev nD) (t : Fin (cfgM m).N) :
    (dats m 0 c).leavesExact 0 t = owns (c : Thread nD τ) (ms_0 m t) fullShare (iblk m c 0 t) := by
  rw [show (dats m 0 c).leavesExact 0 t = owns (c : Thread nD τ) (ms_0 m t) fullShare ((dats m 0 c).after 0 t) from by
    unfold Dat.leavesExact; rw [live_in m 0 (by show (0 : ℕ) < 10; decide) t]; try rfl, after_0]
theorem leaves_1 (c : Dev nD) (t : Fin (cfgM m).N) :
    (dats m 0 c).leavesExact 1 t = owns (c : Thread nD τ) (ms_1 m t) fullShare (iblk m c 1 t) := by
  rw [show (dats m 0 c).leavesExact 1 t = owns (c : Thread nD τ) (ms_1 m t) fullShare ((dats m 0 c).after 1 t) from by
    unfold Dat.leavesExact; rw [live_in m 1 (by show (1 : ℕ) < 10; decide) t]; try rfl, after_1]
theorem leaves_2 (c : Dev nD) (t : Fin (cfgM m).N) :
    (dats m 0 c).leavesExact 2 t = owns (c : Thread nD τ) (ms_2 m t) fullShare (iblk m c 2 t) := by
  rw [show (dats m 0 c).leavesExact 2 t = owns (c : Thread nD τ) (ms_2 m t) fullShare ((dats m 0 c).after 2 t) from by
    unfold Dat.leavesExact; rw [live_in m 2 (by show (2 : ℕ) < 10; decide) t]; try rfl, after_2]
theorem leaves_3 (c : Dev nD) (t : Fin (cfgM m).N) :
    (dats m 0 c).leavesExact 3 t = owns (c : Thread nD τ) (ms_3 m t) fullShare (iblk m c 3 t) := by
  rw [show (dats m 0 c).leavesExact 3 t = owns (c : Thread nD τ) (ms_3 m t) fullShare ((dats m 0 c).after 3 t) from by
    unfold Dat.leavesExact; rw [live_in m 3 (by show (3 : ℕ) < 10; decide) t]; try rfl, after_3]
theorem leaves_4 (c : Dev nD) (t : Fin (cfgM m).N) :
    (dats m 0 c).leavesExact 4 t = owns (c : Thread nD τ) (ms_4 m t) fullShare (iblk m c 4 t) := by
  rw [show (dats m 0 c).leavesExact 4 t = owns (c : Thread nD τ) (ms_4 m t) fullShare ((dats m 0 c).after 4 t) from by
    unfold Dat.leavesExact; rw [live_in m 4 (by show (4 : ℕ) < 10; decide) t]; try rfl, after_4]
theorem leaves_5 (c : Dev nD) (t : Fin (cfgM m).N) :
    (dats m 0 c).leavesExact 5 t = owns (c : Thread nD τ) (ms_5 m t) fullShare (iblk m c 5 t) := by
  rw [show (dats m 0 c).leavesExact 5 t = owns (c : Thread nD τ) (ms_5 m t) fullShare ((dats m 0 c).after 5 t) from by
    unfold Dat.leavesExact; rw [live_in m 5 (by show (5 : ℕ) < 10; decide) t]; try rfl, after_5]
theorem leaves_6 (c : Dev nD) (t : Fin (cfgM m).N) :
    (dats m 0 c).leavesExact 6 t = owns (c : Thread nD τ) (ms_6 m t) fullShare (iblk m c 6 t) := by
  rw [show (dats m 0 c).leavesExact 6 t = owns (c : Thread nD τ) (ms_6 m t) fullShare ((dats m 0 c).after 6 t) from by
    unfold Dat.leavesExact; rw [live_in m 6 (by show (6 : ℕ) < 10; decide) t]; try rfl, after_6]
theorem leaves_7 (c : Dev nD) (t : Fin (cfgM m).N) :
    (dats m 0 c).leavesExact 7 t = owns (c : Thread nD τ) (ms_7 m t) fullShare (iblk m c 7 t) := by
  rw [show (dats m 0 c).leavesExact 7 t = owns (c : Thread nD τ) (ms_7 m t) fullShare ((dats m 0 c).after 7 t) from by
    unfold Dat.leavesExact; rw [live_in m 7 (by show (7 : ℕ) < 10; decide) t]; try rfl, after_7]
theorem leaves_8 (c : Dev nD) (t : Fin (cfgM m).N) :
    (dats m 0 c).leavesExact 8 t = owns (c : Thread nD τ) (ms_8 m t) fullShare (iblk m c 8 t) := by
  rw [show (dats m 0 c).leavesExact 8 t = owns (c : Thread nD τ) (ms_8 m t) fullShare ((dats m 0 c).after 8 t) from by
    unfold Dat.leavesExact; rw [live_in m 8 (by show (8 : ℕ) < 10; decide) t]; try rfl, after_8]
theorem leaves_9 (c : Dev nD) (t : Fin (cfgM m).N) :
    (dats m 0 c).leavesExact 9 t = owns (c : Thread nD τ) (ms_9 m t) fullShare (iblk m c 9 t) := by
  rw [show (dats m 0 c).leavesExact 9 t = owns (c : Thread nD τ) (ms_9 m t) fullShare ((dats m 0 c).after 9 t) from by
    unfold Dat.leavesExact; rw [live_in m 9 (by show (9 : ℕ) < 10; decide) t]; try rfl, after_9]

/-- The output's buffer is left at `outVal` at the point that stores it. -/
theorem leaves_10 (c : Dev nD) (t : Fin (cfgM m).N) (h : condOut (grid0.coords t)) :
    (dats m 0 c).leavesExact 10 t = owns (c : Thread nD τ) (ms_10 m t) fullShare (outVal m c t) := by
  rw [show (dats m 0 c).leavesExact 10 t = owns (c : Thread nD τ) (ms_10 m t) fullShare ((dats m 0 c).after 10 t) from by
    unfold Dat.leavesExact; rw [live_out m t h]; try rfl, after_10]

/-- The accumulator the updates of point `t` begin from. -/
theorem entering_eq (c : Dev nD) (t : Fin grid0.N) (g : Acc F) (hg : t.val ≠ 0 → g = accAt m c t.val) :
    entering (grid0.coords t) g = accAt m c t.val := by
  unfold entering
  by_cases h : t.val = 0
  · rw [if_pos ((condZero_iff t).mpr h), h]; rfl
  · rw [if_neg (fun hc => h ((condZero_iff t).mp hc)), hg h]

/-- The output's buffer, held at `outVal` where it is stored and as before elsewhere, is as it is to be left. -/
theorem leaves_out (c : Dev nD) (t : Fin (cfgM m).N) (y d) (h : condOut (grid0.coords t) → y = outVal m c t)
    (h' : ¬ condOut (grid0.coords t) → y = (dats m 0 c).before 10 t d) :
    owns (c : Thread nD τ) (ms_10 m t) fullShare y ⊢ ((dats m 0 c).leavesExact 10 t : sProp 𝕄) := by
  by_cases hc : condOut (grid0.coords t)
  · rw [h hc, leaves_10 m c t hc]
  · rw [h' hc, Dat.leavesExact_idle (dats m 0 c) 10 t (idle_out m t hc) (noFlush_out m t hc)]
    iintro H; iexists _; iexact H

set_option maxHeartbeats 2400000 in
/-- The body meets its obligation at every point: it finds the inputs' blocks and the accumulator of the points before, and
    leaves the blocks in place, the accumulator with this point's update, and the output at the point that stores it. -/
theorem sound_body (hT : TablesOk m) (c : Dev nD) (t : Fin (cfgM m).N) :
    bodyPre m c t ⊢ wp frame (wpE (defs₀ (F := F)) 𝒱₀ (c : Thread nD τ) none) Set.univ (bodyAt m t) (fun _ => bodyPost m c t) := by
  unfold bodyPre bodyPost bodyAt
  simp only [before_0, before_1, before_2, before_3, before_4, before_5, before_6, before_7, before_8, before_9]
  rw [leaves_0, leaves_1, leaves_2, leaves_3, leaves_4, leaves_5, leaves_6, leaves_7, leaves_8, leaves_9]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  rw [PhiT_eq]
  iintro ⟨⟨⟨%g, %hg, HS⟩, Hg, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) (ms_0 m t) (hs_0 m t) (ms_1 m t) (hs_1 m t) (ms_2 m t) (hs_2 m t) (ms_3 m t) (hs_3 m t) (ms_4 m t) (hs_4 m t)
    (ms_5 m t) (hs_5 m t) (ms_6 m t) (hs_6 m t) (ms_7 m t) (hs_7 m t) (ms_8 m t) (hs_8 m t) (ms_9 m t) (hs_9 m t) (ms_10 m t) (hs_10 m t)
    (Memref.isWhole_whole _) (iblk m c 0 t) (iblk m c 1 t) (iblk m c 2 t) (iblk m c 3 t) (iblk m c 4 t) (iblk m c 5 t) (iblk m c 6 t) (iblk m c 7 t)
    (iblk m c 8 t) (iblk m c 9 t) (tbl m 0) (tbl m 1) (firstW m t) (lastW m t) rfl rfl (hT t).1 (hT t).2 g ((dats m 0 c).before 10 t d10))
  rw [entering_eq m c t g hg, ← accAt_succ m c t]
  unfold inputs
  isplitl [H0 H1 H2 H3 H4 H5 H6 H7 H8 H9 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    iexact HT1
  isplitl [H10]; · iexact H10
  isplitl [HS]; · iexact HS
  iintro ⟨⟨H0, H1, H2, H3, H4, H5, H6, H7, H8, H9, HT0, HT1⟩, H10, HS⟩
  isplitl [HS Hg HT0 HT1]
  · isplitl [HS]
    · iexists _; isplitr
      swap; · iexact HS
      ipureintro; exact fun _ => rfl
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves_out m c t (leaving (grid0.coords t) (iblk m c 6 t) (iblk m c 7 t) (iblk m c 8 t) (iblk m c 9 t)
    ((dats m 0 c).before 10 t d10) (accAt m c (t.val + 1))) d10 (fun hc => if_pos hc) (fun hc => if_neg hc)) $$ H10

/-- The obligation the launch asks of the body. -/
theorem body_obligation (hT : TablesOk m) (c : Dev nD) : BodyObligation (dats (F := F) m 0 c) (defs₀ (F := F)) 𝒱₀ () Set.univ := fun t => by
  rw [bigSep_W0, bigSep_W0, defs₀_row m]
  exact triple_restated (sound_body m hT c t) rfl .rfl fun _ => .rfl

/-! ## The launch -/

/-- The scratch, held at anything, is what the first point is handed. -/
theorem inv_start (c : Dev nD) : iprop(Pipeline.ΦA spec0 c ∗ Pipeline.ΦT pre0 (tbl m) c) ⊢ (Inv m c 0 : sProp 𝕄) := by
  unfold Pipeline.ΦA Inv
  rw [scopedRest0_eq]
  iintro ⟨⟨⟨%f, HS⟩, Hg⟩, HT⟩
  isplitl [HS]
  · iexists f; isplitr
    · ipureintro; exact fun h => absurd rfl h
    unfold held; iexact HS
  isplitl [Hg]; · iexact Hg
  iexact HT

/-- What the last point leaves gives the scratch back. -/
theorem inv_end (c : Dev nD) (n : ℕ) : (Inv m c n : sProp 𝕄) ⊢ Pipeline.ΦA spec0 c := by
  unfold Pipeline.ΦA Inv
  rw [scopedRest0_eq]
  iintro ⟨⟨%f, -, HS⟩, Hg, -⟩
  isplitl [HS]
  · iexists f; unfold held; iexact HS
  iexact Hg

set_option backward.isDefEq.respectTransparency.types false in
/-- The launch: every execution ends, with each window's array at what the proof data says, every other buffer as the
    grid found it, and every semaphore's counter at zero. -/
theorem run_main (hT : TablesOk m) : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ 𝒱₀ m ρ main
    (hbody := fun c => (body_obligation m hT c).loose) (hshare := fun c => (dats m 0 c).share_full fun _ => rfl)
    (howed := fun _ _ => rfl) (V := V m) (hmain := hmain m 𝒱₀) (hA := A_eq m) (hpf := V_pre m)
    (hin := fun c => inv_start m c) (hout := fun c => inv_end m c _)

/-- The frame: the argument arrays end as they began, and every semaphore's counter at zero. -/
theorem frame (hT : TablesOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨
      ((h.1 c).1 0).trans (((dats m 0 c).arrAt_in 0 rfl _).trans ((A_eq m c 0).trans (V_kept m c main_arg0 (by decide)))),
      ((h.1 c).2 main_arg1 (by decide : main_arg1 ∈ Pipeline.restRefs sig spec0)).trans (V_kept m c main_arg1 (by decide)),
      ((h.1 c).1 2).trans (((dats m 0 c).arrAt_in 2 rfl _).trans ((A_eq m c 2).trans (V_kept m c main_arg2 (by decide)))),
      ((h.1 c).2 main_arg3 (by decide : main_arg3 ∈ Pipeline.restRefs sig spec0)).trans (V_kept m c main_arg3 (by decide)),
      ((h.1 c).1 4).trans (((dats m 0 c).arrAt_in 4 rfl _).trans ((A_eq m c 4).trans (V_kept m c main_arg4 (by decide)))),
      ((h.1 c).2 main_arg5 (by decide : main_arg5 ∈ Pipeline.restRefs sig spec0)).trans (V_kept m c main_arg5 (by decide)),
      ((h.1 c).1 6).trans (((dats m 0 c).arrAt_in 6 rfl _).trans ((A_eq m c 6).trans (V_kept m c main_arg6 (by decide)))),
      ((h.1 c).2 main_arg7 (by decide : main_arg7 ∈ Pipeline.restRefs sig spec0)).trans (V_kept m c main_arg7 (by decide)),
      ((h.1 c).1 8).trans (((dats m 0 c).arrAt_in 8 rfl _).trans ((A_eq m c 8).trans (V_kept m c main_arg8 (by decide)))),
      ((h.1 c).2 main_arg9 (by decide : main_arg9 ∈ Pipeline.restRefs sig spec0)).trans (V_kept m c main_arg9 (by decide))⟩, h.2⟩) (run_main m ρ hT)

end Cert.KernelIdeal.Seg

end
-- ==== Proof.KernelIdeal.Tables.lean ====
/- What the host operations before the grid leave: the indices cut into blocks, the two tables, and the biases as rows.

   `V_v0` … `V_v6` are those buffers in terms of the arguments; `firstW_eq` and `lastW_eq` say that point `t` reads the index
   of row `10000 t` and of row `10000 t + 9999`; `tablesOk` is the run's hypothesis from the range of the indices. -/
module

public import proofs.«01_k».proof.Proof.KernelIdeal.Kit
public import Idealize.ShloMosaic.Lib.StableHlo.Run
public import Idealize.ShloMosaic.Lib.Pipeline.Value
public import Idealize.ShloMosaic.Lib.ValueIdx

@[expose] public section

set_option maxRecDepth 16384

noncomputable section

namespace Cert.KernelIdeal.Seg

open Cert.KernelIdeal Cert.KernelIdeal.Gen
open Idealize.ShloMosaic Idealize.ShloMosaic.TcCoe Idealize.ShloMosaic.ValueIdx Idealize.ShloMosaic.StableHlo
open Idealize.ShloMosaic.Pipeline (Dat Cfg Window cellOf)

variable {F : FTy → Type} [FloatOps F]
variable (m : (ℓ : Loc nD τ sig) → Buf (Elt F) ℓ)

/-- The indices of a core, by row. -/
abbrev idxOf (c : Dev nD) : IVec S100000 32 := m ((c : Thread nD τ).loc main_arg1)

theorem V_v0 (c : Dev nD) : V m c main_v0 = shapeCast S10x1x10000 (idxOf m c) shapeCasts_S100000_S10x1x10000 := by
  show after hostOps0 _ (Proc.devRef .tc main_v0) = _
  after_results <;> rfl

theorem V_v1 (c : Dev nD) : V m c main_v1 = Host.slice S10 ![0] ![10000] (idxOf m c) slicesBy_S100000_S10_0s10000 := by
  show after hostOps0 _ (Proc.devRef .tc main_v1) = _
  after_results <;> rfl

theorem V_v2 (c : Dev nD) : V m c main_v2 = Host.slice S10 ![9999] ![10000] (idxOf m c) slicesBy_S100000_S10_9999s10000 := by
  show after hostOps0 _ (Proc.devRef .tc main_v2) = _
  after_results <;> rfl

theorem V_v3 (c : Dev nD) : V m c main_v3 = shapeCast S1x256 (m ((c : Thread nD τ).loc main_arg3)) shapeCasts_S256_S1x256 := by
  show after hostOps0 _ (Proc.devRef .tc main_v3) = _
  after_results <;> rfl

theorem V_v4 (c : Dev nD) : V m c main_v4 = shapeCast S1x256 (m ((c : Thread nD τ).loc main_arg5)) shapeCasts_S256_S1x256 := by
  show after hostOps0 _ (Proc.devRef .tc main_v4) = _
  after_results <;> rfl

theorem V_v5 (c : Dev nD) : V m c main_v5 = shapeCast S1x256 (m ((c : Thread nD τ).loc main_arg7)) shapeCasts_S256_S1x256 := by
  show after hostOps0 _ (Proc.devRef .tc main_v5) = _
  after_results <;> rfl

theorem V_v6 (c : Dev nD) : V m c main_v6 = shapeCast S1x256 (m ((c : Thread nD τ).loc main_arg9)) shapeCasts_S256_S1x256 := by
  show after hostOps0 _ (Proc.devRef .tc main_v6) = _
  after_results <;> rfl

/-- The grid has ten points, and a point's one coordinate is its number. -/
theorem coord_val : ∀ t : Fin grid0.N, ((grid0.coords t) 0).val = t.val := by decide +kernel

theorem N_eq : grid0.N = 10 := by decide

theorem row_lt (t : Fin grid0.N) : t.val < 10 := N_eq ▸ t.isLt

/-- The word a table holds at the place of point `t`. -/
theorem wordAt_first (t : Fin grid0.N) (f : S10.Idx → Elt F .i32) :
    wordAt (F := F) tbFirst (grid0.coords t) f = f (ix1 ⟨t.val, row_lt t⟩) := by
  refine congrArg f (funext fun a => ?_)
  match a with
  | ⟨0, _⟩ =>
    refine Fin.ext ?_
    show k0_off1 (grid0.coords t) 0 + 1 * 0 = t.val
    rw [k0_off1_eq]
    exact coord_val t

theorem wordAt_last (t : Fin grid0.N) (f : S10.Idx → Elt F .i32) :
    wordAt (F := F) tbLast (grid0.coords t) f = f (ix1 ⟨t.val, row_lt t⟩) := by
  refine congrArg f (funext fun a => ?_)
  match a with
  | ⟨0, _⟩ =>
    refine Fin.ext ?_
    show k0_off1 (grid0.coords t) 0 + 1 * 0 = t.val
    rw [k0_off1_eq]
    exact coord_val t

/-- The row that point `t`'s block begins with, and the one it ends with. -/
def rowFirst (t : Fin grid0.N) : Fin 100000 := ⟨10000 * t.val, by have := row_lt t; omega⟩
def rowLast (t : Fin grid0.N) : Fin 100000 := ⟨9999 + 10000 * t.val, by have := row_lt t; omega⟩

/-- Point `t` reads the index of its block's first row. -/
theorem firstW_eq (t : Fin grid0.N) : firstW m t = idxOf m 0 (ix1 (rowFirst t)) := by
  unfold firstW
  rw [show tbl m 0 = V m 0 main_v1 from rfl, V_v1]
  refine (wordAt_first t _).trans (congrArg (idxOf m 0) (funext fun a => ?_))
  match a with
  | ⟨0, _⟩ => exact Fin.ext (Nat.zero_add _)

/-- And the index of its last. -/
theorem lastW_eq (t : Fin grid0.N) : lastW m t = idxOf m 0 (ix1 (rowLast t)) := by
  unfold lastW
  rw [show tbl m 1 = V m 0 main_v2 from rfl, V_v2]
  refine (wordAt_last t _).trans (congrArg (idxOf m 0) (funext fun a => ?_))
  match a with
  | ⟨0, _⟩ => exact Fin.ext rfl

/-- The tables' words are below 1024 when the indices are. -/
theorem tablesOk (h : ∀ y, (idxOf m 0 y).toNat < 1024) : TablesOk m := fun t => by
  rw [firstW_eq, lastW_eq]
  exact ⟨h _, h _⟩

end Cert.KernelIdeal.Seg

end
-- ==== Proof.Layers.lean ====
/- The mathematics both programs compute, over the extended reals.

   `layers` is a linear layer, a rectifier and another linear layer applied to one row of 256 numbers. `segsum` adds up, over
   the nodes whose index is `s`, the rows of a family. `below` adds up only the first nodes of a segment: what the kernel's
   accumulator holds after some of its blocks. -/
module

public import Idealize.ShloMosaic.PureOps.Ideal.Laws
public import Idealize.ShloMosaic.Lib.ValueIdx

@[expose] public section

noncomputable section

namespace Cert.Layers

open scoped BigOperators

/-- Two linear layers with a rectifier between them, at output coordinate `j`, on the row `x`. -/
def layers (x : Fin 256 → EReal) (w1 : Fin 256 → Fin 256 → EReal) (b1 : Fin 256 → EReal)
    (w2 : Fin 256 → Fin 256 → EReal) (b2 : Fin 256 → EReal) (j : Fin 256) : EReal :=
  (∑ k, max ((∑ l, x l * w1 l k) + b1 k) 0 * w2 k j) + b2 j

/-- Equal operands give equal layers. -/
theorem layers_congr {x x' : Fin 256 → EReal} {w1 w1' : Fin 256 → Fin 256 → EReal} {b1 b1' : Fin 256 → EReal}
    {w2 w2' : Fin 256 → Fin 256 → EReal} {b2 b2' : Fin 256 → EReal} (hx : ∀ l, x l = x' l) (h1 : ∀ l k, w1 l k = w1' l k)
    (hb1 : ∀ k, b1 k = b1' k) (h2 : ∀ l k, w2 l k = w2' l k) (hb2 : ∀ k, b2 k = b2' k) (j : Fin 256) :
    layers x w1 b1 w2 b2 j = layers x' w1' b1' w2' b2' j := by
  obtain rfl : x = x' := funext hx
  obtain rfl : w1 = w1' := funext fun l => funext (h1 l)
  obtain rfl : b1 = b1' := funext hb1
  obtain rfl : w2 = w2' := funext fun l => funext (h2 l)
  obtain rfl : b2 = b2' := funext hb2
  rfl

/-- The sum of `y n` over the nodes `n` below `N` whose index is `s`. -/
def below (idx : ℕ → ℕ) (y : ℕ → EReal) (s N : ℕ) : EReal :=
  ∑ n ∈ Finset.range N, if idx n = s then y n else 0

/-- No nodes add up to nothing. -/
theorem below_zero (idx : ℕ → ℕ) (y : ℕ → EReal) (s : ℕ) : below idx y s 0 = 0 := Finset.sum_range_zero _

/-- A further block of nodes adds its own sum. -/
theorem below_add (idx : ℕ → ℕ) (y : ℕ → EReal) (s N B : ℕ) :
    below idx y s (N + B) = below idx y s N + ∑ r : Fin B, if idx (N + r.val) = s then y (N + r.val) else 0 := by
  unfold below
  rw [Finset.sum_range_add, Finset.sum_range (n := B)]

/-- All the nodes, as a sum over the nodes as a finite type. -/
theorem below_all (idx : ℕ → ℕ) (y : ℕ → EReal) (s N : ℕ) :
    below idx y s N = ∑ n : Fin N, if idx n.val = s then y n.val else 0 := Finset.sum_range _

end Cert.Layers

end
-- ==== Proof.KernelIdeal.Payload.lean ====
/- The kernel's stored values at an index, over the extended reals.

   `oneHot_apply` reads the one-hot matrix: 1 where the node's index is the window's row, else 0. `windowSum_apply` reads its
   product with the block's rows: the sum of the rows whose index is the window's row. `pay1_apply` and `pay3_apply` read the
   two pairs of linear layers. -/
module

public import proofs.«01_k».proof.Proof.KernelIdeal.Loop
public import proofs.«01_k».proof.Proof.Layers
public import Idealize.ShloMosaic.Lib.MatmulPlain
public import Idealize.ShloMosaic.Lib.IdealHost
public import Idealize.ShloMosaic.Lib.ValueLayout
public import Idealize.ShloMosaic.Lib.Pipeline.Value
public import Idealize.ShloMosaic.Lib.ValueIdx

@[expose] public section

set_option maxRecDepth 16384

noncomputable section

namespace Cert.KernelIdeal.Seg

open Cert.KernelIdeal Cert.KernelIdeal.Gen Cert.Layers
open Idealize.ShloMosaic Idealize.ShloMosaic.TcCoe Idealize.ShloMosaic.ValueIdx
open scoped BigOperators

/-! ## The layers -/

/-- A product of a block of 10000 rows with a square of weights, onto zero. -/
theorem matmul_rows (x : FVec Ideal S10000x256 .f32) (w : FVec Ideal S256x256 .f32) (r : Fin 10000) (j : Fin 256) :
    matmul dot_S10000x256_S256x256_S10000x256_1_0_0_1_n_n none x w (constant S10000x256 .f32 0x00000000#32) (ix2 r j)
      = ∑ k : Fin 256, x (ix2 r k) * w (ix2 k j) := by
  refine (Ideal.matmul_plain_apply none x w _ r j).trans ?_
  rw [show (constant S10000x256 .f32 0x00000000#32 : FVec Ideal S10000x256 .f32) (ix2 r j) = 0 from Ideal.ofBits_zero_f32, zero_add]

/-- The same of 1024 rows. -/
theorem matmul_segments (x : FVec Ideal S1024x256 .f32) (w : FVec Ideal S256x256 .f32) (r : Fin 1024) (j : Fin 256) :
    matmul dot_S1024x256_S256x256_S1024x256_1_0_0_1_n_n none x w (constant S1024x256 .f32 0x00000000#32) (ix2 r j)
      = ∑ k : Fin 256, x (ix2 r k) * w (ix2 k j) := by
  refine (Ideal.matmul_plain_apply none x w _ r j).trans ?_
  rw [show (constant S1024x256 .f32 0x00000000#32 : FVec Ideal S1024x256 .f32) (ix2 r j) = 0 from Ideal.ofBits_zero_f32, zero_add]

/-- The product of a window's one-hot matrix with the block's rows, onto zero. -/
theorem matmul_window (x : FVec Ideal S128x10000 .bf16) (w : FVec Ideal S10000x256 .bf16) (r : Fin 128) (j : Fin 256) :
    matmul dot_S128x10000_S10000x256_S128x256_1_0_0_1_n_n none x w (constant S128x256 .f32 0x00000000#32) (ix2 r j)
      = ∑ k : Fin 10000, x (ix2 r k) * w (ix2 k j) := by
  refine (Ideal.matmul_plain_apply none x w _ r j).trans ?_
  rw [show (constant S128x256 .f32 0x00000000#32 : FVec Ideal S128x256 .f32) (ix2 r j) = 0 from Ideal.ofBits_zero_f32, zero_add]

/-- A bias row spread over a block's rows. -/
theorem bias_rows (b : FVec Ideal S1x256 .f32) (r : Fin 10000) (j : Fin 256) :
    broadcastTo S10000x256 (shapeCast S1x256 b shapeCasts_S1x256_S1x256) broadcasts_S1x256_S10000x256 (ix2 r j) = b (ix2 (0 : Fin 1) j) := by
  rw [shapeCast_self]; exact broadcastTo_1b_ab_apply b _ r j

/-- A bias row spread over the segments. -/
theorem bias_segments (b : FVec Ideal S1x256 .f32) (r : Fin 1024) (j : Fin 256) :
    broadcastTo S1024x256 (shapeCast S1x256 b shapeCasts_S1x256_S1x256) broadcasts_S1x256_S1024x256 (ix2 r j) = b (ix2 (0 : Fin 1) j) := by
  rw [shapeCast_self]; exact broadcastTo_1b_ab_apply b _ r j

/-- A block's rows after the node layers. -/
theorem pay1_apply (x : FVec Ideal S10000x256 .f32) (w1 : FVec Ideal S256x256 .f32) (b1 : FVec Ideal S1x256 .f32)
    (w2 : FVec Ideal S256x256 .f32) (b2 : FVec Ideal S1x256 .f32) (r : Fin 10000) (j : Fin 256) :
    k0_pay1 (F := Ideal) (k0_pay8 (F := Ideal) x w1) b1 w2 b2 (ix2 r j)
      = layers (fun l => x (ix2 r l)) (fun l k => w1 (ix2 l k)) (fun k => b1 (ix2 (0 : Fin 1) k))
          (fun l k => w2 (ix2 l k)) (fun k => b2 (ix2 (0 : Fin 1) k)) j := by
  unfold k0_pay1 k0_pay8 layers
  refine congrArg₂ (· + ·) ((matmul_rows _ w2 r j).trans (Finset.sum_congr rfl fun k _ => congrArg (· * w2 (ix2 k j)) ?_)) (bias_rows b2 r j)
  exact congrArg₂ max (congrArg₂ (· + ·) (matmul_rows x w1 r k) (bias_rows b1 r k)) Ideal.ofBits_zero_f32

/-- The segments' rows after the last layers. -/
theorem pay3_apply (x : FVec Ideal S1024x256 .f32) (w1 : FVec Ideal S256x256 .f32) (b1 : FVec Ideal S1x256 .f32)
    (w2 : FVec Ideal S256x256 .f32) (b2 : FVec Ideal S1x256 .f32) (r : Fin 1024) (j : Fin 256) :
    k0_pay3 (F := Ideal) x w1 b1 w2 b2 (ix2 r j)
      = layers (fun l => x (ix2 r l)) (fun l k => w1 (ix2 l k)) (fun k => b1 (ix2 (0 : Fin 1) k))
          (fun l k => w2 (ix2 l k)) (fun k => b2 (ix2 (0 : Fin 1) k)) j := by
  unfold k0_pay3 layers
  refine congrArg₂ (· + ·) ((matmul_segments _ w2 r j).trans (Finset.sum_congr rfl fun k _ => congrArg (· * w2 (ix2 k j)) ?_)) (bias_segments b2 r j)
  exact congrArg₂ max (congrArg₂ (· + ·) (matmul_segments x w1 r k) (bias_segments b1 r k)) Ideal.ofBits_zero_f32

/-! ## The one-hot matrix of a window -/

/-- The one-hot matrix of the window whose first row is the word `b`, for a block's indices `v4`. -/
def oneHot (v4 : IVec S1x10000 32) (b : BitVec 32) : FVec Ideal S128x10000 .bf16 :=
  truncf .bf16 (sitofp .f32 (extui 32 (cmpi .eq (broadcastTo S128x10000 (subi v4 (broadcast S1x10000 b)) broadcasts_S1x10000_S128x10000)
    rowIds) natLt_1_32)) bitsLt_bf16_f32

/-- The kernel's first one-hot matrix of a block. -/
theorem pay7_eq (v3 : IVec S1x1x10000 32) (w : BitVec 32) :
    k0_pay7 (F := Ideal) v3 w = oneHot (k0_pay6 (F := Ideal) v3) (Scalar.muli (firstTile w) 8#32) := rfl

/-- A truth value as a number: 1 or 0. -/
theorem flag_value (p : Prop) [Decidable p] :
    (((BitVec.setWidth 32 (BitVec.ofBool (decide p))).toInt : ℝ) : EReal) = if p then 1 else 0 := by
  by_cases h : p
  · simp [h]
  · simp [h]

/-- A difference of words is a small number exactly when the words differ by it. -/
theorem sub_eq_iff (v b : BitVec 32) (i : ℕ) (hb : b.toNat + i < 2 ^ 32) : v - b = BitVec.ofNat 32 i ↔ v.toNat = b.toNat + i := by
  rw [← BitVec.toNat_inj, BitVec.toNat_sub, BitVec.toNat_ofNat]
  have := v.isLt
  omega

/-- The one-hot matrix at a window's row `i` and a node `n`. -/
theorem oneHot_apply (v4 : IVec S1x10000 32) (b : BitVec 32) (hb : b.toNat ≤ 1024) (i : Fin 128) (n : Fin 10000) :
    oneHot v4 b (ix2 i n) = if (v4 (ix2 (0 : Fin 1) n)).toNat = b.toNat + i.val then 1 else 0 := by
  have e1 : broadcastTo S128x10000 (subi v4 (broadcast S1x10000 b)) broadcasts_S1x10000_S128x10000 (ix2 i n) = v4 (ix2 (0 : Fin 1) n) - b :=
    broadcastTo_1b_ab_apply (subi v4 (broadcast S1x10000 b)) _ i n
  have e2 : rowIds (ix2 i n) = BitVec.ofNat 32 i.val := by
    show BitVec.ofNat 32 _ = _
    congr 1
    simp
  have key : oneHot v4 b (ix2 i n) = if v4 (ix2 (0 : Fin 1) n) - b = BitVec.ofNat 32 i.val then 1 else 0 := by
    rw [← flag_value, ← e1, ← e2]
    rfl
  rw [key]
  exact if_congr (sub_eq_iff _ _ _ (by have := i.isLt; omega)) rfl rfl

/-- What a window's update adds: at row `i`, the sum of the block's rows whose index is the window's row `i`. -/
theorem windowSum_apply (v4 : IVec S1x10000 32) (b : BitVec 32) (hb : b.toNat ≤ 1024) (xb : FVec Ideal S10000x256 .bf16)
    (i : Fin 128) (j : Fin 256) :
    matmul dot_S128x10000_S10000x256_S128x256_1_0_0_1_n_n none (oneHot v4 b) xb (constant S128x256 .f32 0x00000000#32) (ix2 i j)
      = ∑ n : Fin 10000, if (v4 (ix2 (0 : Fin 1) n)).toNat = b.toNat + i.val then xb (ix2 n j) else 0 := by
  rw [matmul_window]
  refine Finset.sum_congr rfl fun n _ => ?_
  rw [oneHot_apply v4 b hb, ite_mul, one_mul, zero_mul]

/-- The first window's stored value at an index. -/
theorem pay2_apply (v3 : IVec S1x1x10000 32) (w : BitVec 32) (hw : w.toNat < 1024) (v37 : FVec Ideal S10000x256 .f32)
    (b1 : FVec Ideal S1x256 .f32) (w2 : FVec Ideal S256x256 .f32) (b2 : FVec Ideal S1x256 .f32) (v : FVec Ideal S128x256 .f32)
    (i : Fin 128) (j : Fin 256) :
    k0_pay2 (F := Ideal) (k0_pay7 (F := Ideal) v3 w) v37 b1 w2 b2 v (ix2 i j) = v (ix2 i j)
      + ∑ n : Fin 10000, if (k0_pay6 (F := Ideal) v3 (ix2 (0 : Fin 1) n)).toNat = w.toNat / 8 * 8 + i.val then k0_pay1 (F := Ideal) v37 b1 w2 b2 (ix2 n j) else 0 := by
  have ht := toNat_firstTile w hw
  have hm := toNat_muli (firstTile w) (by omega)
  rw [pay7_eq]
  unfold k0_pay2
  rw [shapeCast_self]
  refine congrArg (v (ix2 i j) + ·) ((windowSum_apply _ _ (by omega) _ i j).trans ?_)
  rw [hm, ht]

/-- A later window's stored value at an index. -/
theorem pay4_apply (v4 : IVec S1x10000 32) (xb : FVec Ideal S10000x256 .bf16) (a : BitVec 32) (ha : a.toNat ≤ 127)
    (v : FVec Ideal S128x256 .f32) (i : Fin 128) (j : Fin 256) :
    k0_pay4 (F := Ideal) v4 rowIds xb a v (ix2 i j) = v (ix2 i j)
      + ∑ n : Fin 10000, if (v4 (ix2 (0 : Fin 1) n)).toNat = a.toNat * 8 + i.val then xb (ix2 n j) else 0 := by
  have hm := toNat_muli a (by omega)
  have e : k0_pay4 (F := Ideal) v4 rowIds xb a v = addf v (matmul dot_S128x10000_S10000x256_S128x256_1_0_0_1_n_n none (oneHot v4 (Scalar.muli a 8#32)) xb
      (constant S128x256 .f32 0x00000000#32)) := by
    unfold k0_pay4; exact shapeCast_self _ _
  rw [e]
  refine congrArg (v (ix2 i j) + ·) ((windowSum_apply _ _ (by omega) _ i j).trans ?_)
  rw [hm]

end Cert.KernelIdeal.Seg

end
-- ==== Proof.KernelIdeal.Accum.lean ====
/- What the kernel's accumulator holds, over the extended reals.

   A window's update adds, at each of its 128 rows, the sum of the block's rows whose index is that row
   (`afterFirst_apply`, `afterTrip_apply`). The windows of one grid point follow one another without a gap from at or below the block's least
   index to beyond its greatest, so together they add that sum at every row of the accumulator (`afterPoint_apply`). -/
module

public import proofs.«01_k».proof.Proof.KernelIdeal.Payload

@[expose] public section

set_option maxRecDepth 16384

noncomputable section

namespace Cert.KernelIdeal.Seg

open Cert.KernelIdeal Cert.KernelIdeal.Gen Cert.Layers
open Idealize.ShloMosaic Idealize.ShloMosaic.TcCoe Idealize.ShloMosaic.ValueIdx
open scoped BigOperators

/-! ## A window of the accumulator -/

/-- A window's row, as a row of the accumulator. -/
theorem window_read (off : Fin 2 → ℕ) (o : ℕ) (ho : off = ![o, 0]) (inb : ∀ a, off a + S128x256.size a ≤ S1152x256.size a)
    (f : Acc Ideal) (i : Fin 128) (j : Fin 256) (s : Fin 1152) (hs : s.val = o + i.val) :
    accM.view.readAt (Elt Ideal) (Rect.unit (s := S1152x256) off S128x256.size inb).toLoadRect f (ix2 i j) = f (ix2 s j) := by
  subst ho
  refine congrArg f (funext fun a => Fin.ext ?_)
  match a with
  | ⟨0, _⟩ => show o + 1 * i.val = s.val; omega
  | ⟨1, _⟩ => show 0 + 1 * j.val = j.val; omega

/-- A store into a window changes the window's rows and no others. -/
theorem window_write (off : Fin 2 → ℕ) (o : ℕ) (ho : off = ![o, 0]) (inb : ∀ a, off a + S128x256.size a ≤ S1152x256.size a)
    (f : Acc Ideal) (w : FVec Ideal S128x256 .f32) (s : Fin 1152) (j : Fin 256) :
    (accM.access (Rect.unit (s := S1152x256) off S128x256.size inb)).write (Elt Ideal) f w Finset.univ (ix2 s j)
      = if h : o ≤ s.val ∧ s.val < o + 128 then w (ix2 ⟨s.val - o, by omega⟩ j) else f (ix2 s j) := by
  subst ho
  refine (congrFun (View.write_whole_slice_unit cc0_scratch0 ![o, 0] S128x256.size inb f w) (ix2 s j)).trans ?_
  unfold updateSlice
  by_cases h : o ≤ s.val ∧ s.val < o + 128
  · rw [dif_pos h, dif_pos]
    · refine congrArg w (funext fun a => Fin.ext ?_)
      match a with
      | ⟨0, _⟩ => rfl
      | ⟨1, _⟩ => rfl
    · intro a
      match a with
      | ⟨0, _⟩ => exact h
      | ⟨1, _⟩ => exact ⟨Nat.zero_le _, by show j.val < 0 + 256; omega⟩
  · rw [dif_neg h, dif_neg]
    intro hin
    exact h (hin (0 : Fin 2))

/-! ## The updates at an index -/

/-- The accumulator's number at a row and a column. -/
abbrev cell (f : Acc Ideal) (s : Fin 1152) (j : Fin 256) : EReal := f (ix2 s j)

/-- The sum of a block's rows whose index is `s`. -/
def blockSum (v4 : IVec S1x10000 32) (xb : FVec Ideal S10000x256 .bf16) (s : ℕ) (j : Fin 256) : EReal :=
  ∑ n : Fin 10000, if (v4 (ix2 (0 : Fin 1) n)).toNat = s then (xb (ix2 n j) : EReal) else 0

/-- It is zero at a row that is no node's index. -/
theorem blockSum_eq_zero (v4 : IVec S1x10000 32) (xb : FVec Ideal S10000x256 .bf16) (s : ℕ) (j : Fin 256)
    (h : ∀ n : Fin 10000, (v4 (ix2 (0 : Fin 1) n)).toNat ≠ s) : blockSum v4 xb s j = 0 :=
  Finset.sum_eq_zero fun n _ => if_neg (h n)

/-- The accumulator after the first window's update. -/
theorem afterFirst_apply (v3 : IVec S1x1x10000 32) (x : FVec Ideal S10000x256 .f32) (w1 : FVec Ideal S256x256 .f32) (b1 : FVec Ideal S1x256 .f32)
    (w2 : FVec Ideal S256x256 .f32) (b2 : FVec Ideal S1x256 .f32) (w : BitVec 32) (hw : w.toNat < 1024) (h : k0_chk1 w) (f : Acc Ideal)
    (s : Fin 1152) (j : Fin 256) :
    cell (afterFirst (F := Ideal) v3 x w1 b1 w2 b2 w h f) s j
      = if w.toNat / 8 * 8 ≤ s.val ∧ s.val < w.toNat / 8 * 8 + 128
        then cell f s j + blockSum (k0_pay6 (F := Ideal) v3) (k0_pay1 (F := Ideal) (k0_pay8 (F := Ideal) x w1) b1 w2 b2) s.val j
        else cell f s j := by
  have ho : k0_off2 w = ![w.toNat / 8 * 8, 0] := by
    have ht := toNat_firstTile w hw
    rw [off2_eq, toNat_muli _ (by omega), ht]
  refine (window_write _ _ ho _ f _ s j).trans ?_
  by_cases hs : w.toNat / 8 * 8 ≤ s.val ∧ s.val < w.toNat / 8 * 8 + 128
  · rw [dif_pos hs, if_pos hs]
    refine (pay2_apply v3 w hw _ b1 w2 b2 _ ⟨s.val - w.toNat / 8 * 8, by omega⟩ j).trans ?_
    refine congrArg₂ (· + ·) (window_read _ _ ho _ f _ j s (by show s.val = _ + (s.val - _); omega)) ?_
    refine Finset.sum_congr rfl fun n _ => if_congr ?_ rfl rfl
    rw [show w.toNat / 8 * 8 + (s.val - w.toNat / 8 * 8) = s.val by omega]
  · rw [dif_neg hs, if_neg hs]

/-- The accumulator after a later window's update. -/
theorem afterTrip_apply (v4 : IVec S1x10000 32) (xb : FVec Ideal S10000x256 .bf16) (a : BitVec 32) (ha : a.toNat ≤ 127) (h : k0_chk2 a)
    (f : Acc Ideal) (s : Fin 1152) (j : Fin 256) :
    cell (afterTrip (F := Ideal) v4 xb a h f) s j
      = if a.toNat * 8 ≤ s.val ∧ s.val < a.toNat * 8 + 128 then cell f s j + blockSum v4 xb s.val j else cell f s j := by
  have ho : k0_off3 a = ![a.toNat * 8, 0] := by rw [off3_eq, toNat_muli _ (by omega)]
  refine (window_write _ _ ho _ f _ s j).trans ?_
  by_cases hs : a.toNat * 8 ≤ s.val ∧ s.val < a.toNat * 8 + 128
  · rw [dif_pos hs, if_pos hs]
    refine (pay4_apply v4 xb a ha _ ⟨s.val - a.toNat * 8, by omega⟩ j).trans ?_
    refine congrArg₂ (· + ·) (window_read _ _ ho _ f _ j s (by show s.val = _ + (s.val - _); omega)) ?_
    refine Finset.sum_congr rfl fun n _ => if_congr ?_ rfl rfl
    rw [show a.toNat * 8 + (s.val - a.toNat * 8) = s.val by omega]
  · rw [dif_neg hs, if_neg hs]

/-- The accumulator after `k` later windows: a block's sums, added below the row `8 a` before them, are added below the row
    `8 a + 128 k` after them. -/
theorem afterTrips_apply (v4 : IVec S1x10000 32) (xb : FVec Ideal S10000x256 .bf16) (g : Acc Ideal) :
    ∀ (k : ℕ) (a : BitVec 32) (f : Acc Ideal), a.toNat + 16 * k ≤ 143 →
      (∀ (s : Fin 1152) (j : Fin 256), cell f s j = cell g s j + if s.val < a.toNat * 8 then blockSum v4 xb s.val j else 0) →
      ∀ (s : Fin 1152) (j : Fin 256), cell (afterTrips (F := Ideal) v4 xb k a f) s j
        = cell g s j + if s.val < a.toNat * 8 + 128 * k then blockSum v4 xb s.val j else 0 := by
  intro k
  induction k with
  | zero => intro a f _ hf s j; exact hf s j
  | succ k ih =>
    intro a f hk hf s j
    have hc : k0_chk2 a := chk2_of_le a (by omega)
    have hn := toNat_addi a (by omega)
    rw [afterTrips_succ v4 xb k a hc]
    refine (ih _ _ (by omega) (fun s j => ?_) s j).trans ?_
    · rw [afterTrip_apply v4 xb a (by omega) hc f s j, hf s j, hn]
      by_cases h1 : s.val < a.toNat * 8
      · rw [if_neg (by omega), if_pos h1, if_pos (by omega)]
      · by_cases h2 : s.val < a.toNat * 8 + 128
        · rw [if_pos ⟨by omega, h2⟩, if_neg h1, if_pos (by omega), add_zero]
        · rw [if_neg (by omega), if_neg h1, if_neg (by omega)]
    · rw [hn]
      by_cases h1 : s.val < a.toNat * 8 + 128 * (k + 1)
      · rw [if_pos h1, if_pos (by omega)]
      · rw [if_neg h1, if_neg (by omega)]

/-- The accumulator after a whole grid point, when every index of the block lies between the point's two table words: the
    block's sum is added at every row. -/
theorem afterPoint_apply (v3 : IVec S1x1x10000 32) (x : FVec Ideal S10000x256 .f32) (w1 : FVec Ideal S256x256 .f32) (b1 : FVec Ideal S1x256 .f32)
    (w2 : FVec Ideal S256x256 .f32) (b2 : FVec Ideal S1x256 .f32) (w l : BitVec 32) (hw : w.toNat < 1024) (hl : l.toNat < 1024)
    (hlo : ∀ n : Fin 10000, w.toNat ≤ (k0_pay6 (F := Ideal) v3 (ix2 (0 : Fin 1) n)).toNat)
    (hhi : ∀ n : Fin 10000, (k0_pay6 (F := Ideal) v3 (ix2 (0 : Fin 1) n)).toNat ≤ l.toNat) (f : Acc Ideal) (s : Fin 1152) (j : Fin 256) :
    cell (afterPoint (F := Ideal) v3 x w1 b1 w2 b2 w l f) s j
      = cell f s j + blockSum (k0_pay6 (F := Ideal) v3) (k0_pay1 (F := Ideal) (k0_pay8 (F := Ideal) x w1) b1 w2 b2) s.val j := by
  have hwl : w.toNat ≤ l.toNat := (hlo 0).trans (hhi 0)
  have ht := toNat_firstTile w hw
  have hn := toNat_addi (firstTile w) (by omega)
  have hk : trips (Scalar.addi (firstTile w) 16#32) l = (l.toNat / 8 - w.toNat / 8) / 16 := by unfold trips; rw [hn, ht]; omega
  unfold afterPoint; rw [dif_pos (chk1_of_lt w hw)]
  refine (afterTrips_apply _ _ f _ _ _ (by rw [hk, hn, ht]; omega) (fun s j => ?_) s j).trans ?_
  · rw [afterFirst_apply v3 x w1 b1 w2 b2 w hw _ f s j, hn, ht]
    by_cases h1 : s.val < w.toNat / 8 * 8
    · rw [if_neg (by omega), if_pos (by omega), blockSum_eq_zero _ _ _ _ fun n => by have := hlo n; omega, add_zero]
    · by_cases h2 : s.val < w.toNat / 8 * 8 + 128
      · rw [if_pos ⟨by omega, h2⟩, if_pos (by omega)]
      · rw [if_neg (by omega), if_neg (by omega), add_zero]
  · refine congrArg (cell f s j + ·) ?_
    by_cases h1 : s.val < (Scalar.addi (firstTile w) 16#32).toNat * 8 + 128 * trips (Scalar.addi (firstTile w) 16#32) l
    · rw [if_pos h1]
    · rw [if_neg h1, blockSum_eq_zero _ _ _ _ fun n => by have := hhi n; rw [hk, hn, ht] at h1; omega]

end Cert.KernelIdeal.Seg

end
-- ==== Proof.KernelIdeal.Blocks.lean ====
/- The blocks a grid point reads, in terms of the kernel's arguments.

   The point's rows of `x` and its indices are the arguments' rows `10000 t` on; the weights and the biases are the
   arguments whole. -/
module

public import proofs.«01_k».proof.Proof.KernelIdeal.Tables
public import Idealize.ShloMosaic.Lib.Pipeline.ValueKit.Geometry

@[expose] public section

set_option maxRecDepth 16384

noncomputable section

namespace Cert.KernelIdeal.Seg

open Cert.KernelIdeal Cert.KernelIdeal.Gen
open Idealize.ShloMosaic Idealize.ShloMosaic.TcCoe Idealize.ShloMosaic.ValueIdx Idealize.ShloMosaic.StableHlo
open Idealize.ShloMosaic.Pipeline (Dat Cfg Window cellOf)

variable {F : FTy → Type} [FloatOps F]
variable (m : (ℓ : Loc nD τ sig) → Buf (Elt F) ℓ)

/-- Row `r` of point `t`'s block is this row of the arguments. -/
def rowAt (t : Fin grid0.N) (r : Fin 10000) : Fin 100000 := ⟨10000 * t.val + r.val, by have := row_lt t; have := r.isLt; omega⟩

/-! ## Where the windows' blocks begin -/

theorem place_0 : ∀ t : Fin grid0.N, cc0_transform_0 (grid0.coords t) = ![t.val, 0] := by decide +kernel
theorem place_1 : ∀ t : Fin grid0.N, cc0_transform_1 (grid0.coords t) = ![t.val, 0, 0] := by decide +kernel
theorem place_2 : ∀ t : Fin grid0.N, cc0_transform_2 (grid0.coords t) = ![0, 0] := by decide +kernel
theorem place_3 : ∀ t : Fin grid0.N, cc0_transform_3 (grid0.coords t) = ![0, 0] := by decide +kernel
theorem place_4 : ∀ t : Fin grid0.N, cc0_transform_4 (grid0.coords t) = ![0, 0] := by decide +kernel
theorem place_5 : ∀ t : Fin grid0.N, cc0_transform_5 (grid0.coords t) = ![0, 0] := by decide +kernel
theorem place_6 : ∀ t : Fin grid0.N, cc0_transform_6 (grid0.coords t) = ![0, 0] := by decide +kernel
theorem place_7 : ∀ t : Fin grid0.N, cc0_transform_7 (grid0.coords t) = ![0, 0] := by decide +kernel
theorem place_8 : ∀ t : Fin grid0.N, cc0_transform_8 (grid0.coords t) = ![0, 0] := by decide +kernel
theorem place_9 : ∀ t : Fin grid0.N, cc0_transform_9 (grid0.coords t) = ![0, 0] := by decide +kernel
theorem place_10 : ∀ t : Fin grid0.N, cc0_transform_10 (grid0.coords t) = ![0, 0] := by decide +kernel

/-! ## The blocks -/

/-- The rows of `x`. -/
theorem iblk_0 (c : Dev nD) (t : Fin grid0.N) (r : Fin 10000) (l : Fin 256) :
    iblk m c 0 t (ix2 r l) = m ((c : Thread nD τ).loc main_arg0) (ix2 (rowAt t r) l) := by
  have hV : V m c main_arg0 = m ((c : Thread nD τ).loc main_arg0) := V_kept m c main_arg0 (by decide)
  rw [← hV]
  refine congrArg (V m c main_arg0) (funext fun a => Fin.ext ?_)
  have hp := place_0 t
  match a with
  | ⟨0, _⟩ =>
    show cc0_transform_0 (grid0.coords t) 0 * 10000 + 1 * r.val = 10000 * t.val + r.val
    rw [hp]; show t.val * 10000 + 1 * r.val = _; omega
  | ⟨1, _⟩ =>
    show cc0_transform_0 (grid0.coords t) 1 * 256 + 1 * l.val = l.val
    rw [hp]; show 0 * 256 + 1 * l.val = _; omega

/-- The indices, as the host operations cut them into blocks. -/
theorem iblk_1 (c : Dev nD) (t : Fin grid0.N) (r : Fin 10000) :
    iblk m c 1 t (ix3 (0 : Fin 1) (0 : Fin 1) r) = idxOf m c (ix1 (rowAt t r)) := by
  have e : iblk m c 1 t (ix3 (0 : Fin 1) (0 : Fin 1) r) = V m c main_v0 (ix3 ⟨t.val, row_lt t⟩ (0 : Fin 1) r) := by
    refine congrArg (V m c main_v0) (funext fun a => Fin.ext ?_)
    have hp := place_1 t
    match a with
    | ⟨0, _⟩ =>
      show cc0_transform_1 (grid0.coords t) 0 * 1 + 1 * 0 = t.val
      rw [hp]; show t.val * 1 + 1 * 0 = _; omega
    | ⟨1, _⟩ =>
      show cc0_transform_1 (grid0.coords t) 1 * 1 + 1 * 0 = 0
      rw [hp]; rfl
    | ⟨2, _⟩ =>
      show cc0_transform_1 (grid0.coords t) 2 * 10000 + 1 * r.val = r.val
      rw [hp]; show 0 * 10000 + 1 * r.val = _; omega
  rw [e, V_v0]
  refine shapeCast_apply _ _ _ _ ?_
  rw [Shape.rowMajor_val_one, Shape.rowMajor_val_three]
  show 10000 * t.val + r.val = (t.val * 1 + 0) * 10000 + r.val
  omega

/-- A bias, as the host operations make it a row. -/
theorem bias_cast (b : FVec F S256 .f32) (k : Fin 256) : shapeCast S1x256 b shapeCasts_S256_S1x256 (ix2 (0 : Fin 1) k) = b (ix1 k) := by
  refine shapeCast_apply _ _ _ _ ?_
  rw [Shape.rowMajor_val_one, Shape.rowMajor_val_two]
  show k.val = 0 * 256 + k.val
  omega

/-- The first weights. -/
theorem iblk_2 (c : Dev nD) (t : Fin grid0.N) (l k : Fin 256) :
    iblk m c 2 t (ix2 l k) = m ((c : Thread nD τ).loc main_arg2) (ix2 l k) := by
  have hV : V m c main_arg2 = m ((c : Thread nD τ).loc main_arg2) := V_kept m c main_arg2 (by decide)
  rw [← hV]
  refine congrArg (V m c main_arg2) (funext fun a => Fin.ext ?_)
  have hp := place_2 t
  match a with
  | ⟨0, _⟩ =>
    show cc0_transform_2 (grid0.coords t) 0 * 256 + 1 * l.val = l.val
    rw [hp]; show 0 * 256 + 1 * l.val = _; omega
  | ⟨1, _⟩ =>
    show cc0_transform_2 (grid0.coords t) 1 * 256 + 1 * k.val = k.val
    rw [hp]; show 0 * 256 + 1 * k.val = _; omega

/-- The second weights. -/
theorem iblk_4 (c : Dev nD) (t : Fin grid0.N) (l k : Fin 256) :
    iblk m c 4 t (ix2 l k) = m ((c : Thread nD τ).loc main_arg4) (ix2 l k) := by
  have hV : V m c main_arg4 = m ((c : Thread nD τ).loc main_arg4) := V_kept m c main_arg4 (by decide)
  rw [← hV]
  refine congrArg (V m c main_arg4) (funext fun a => Fin.ext ?_)
  have hp := place_4 t
  match a with
  | ⟨0, _⟩ =>
    show cc0_transform_4 (grid0.coords t) 0 * 256 + 1 * l.val = l.val
    rw [hp]; show 0 * 256 + 1 * l.val = _; omega
  | ⟨1, _⟩ =>
    show cc0_transform_4 (grid0.coords t) 1 * 256 + 1 * k.val = k.val
    rw [hp]; show 0 * 256 + 1 * k.val = _; omega

/-- The third weights. -/
theorem iblk_6 (c : Dev nD) (t : Fin grid0.N) (l k : Fin 256) :
    iblk m c 6 t (ix2 l k) = m ((c : Thread nD τ).loc main_arg6) (ix2 l k) := by
  have hV : V m c main_arg6 = m ((c : Thread nD τ).loc main_arg6) := V_kept m c main_arg6 (by decide)
  rw [← hV]
  refine congrArg (V m c main_arg6) (funext fun a => Fin.ext ?_)
  have hp := place_6 t
  match a with
  | ⟨0, _⟩ =>
    show cc0_transform_6 (grid0.coords t) 0 * 256 + 1 * l.val = l.val
    rw [hp]; show 0 * 256 + 1 * l.val = _; omega
  | ⟨1, _⟩ =>
    show cc0_transform_6 (grid0.coords t) 1 * 256 + 1 * k.val = k.val
    rw [hp]; show 0 * 256 + 1 * k.val = _; omega

/-- The fourth weights. -/
theorem iblk_8 (c : Dev nD) (t : Fin grid0.N) (l k : Fin 256) :
    iblk m c 8 t (ix2 l k) = m ((c : Thread nD τ).loc main_arg8) (ix2 l k) := by
  have hV : V m c main_arg8 = m ((c : Thread nD τ).loc main_arg8) := V_kept m c main_arg8 (by decide)
  rw [← hV]
  refine congrArg (V m c main_arg8) (funext fun a => Fin.ext ?_)
  have hp := place_8 t
  match a with
  | ⟨0, _⟩ =>
    show cc0_transform_8 (grid0.coords t) 0 * 256 + 1 * l.val = l.val
    rw [hp]; show 0 * 256 + 1 * l.val = _; omega
  | ⟨1, _⟩ =>
    show cc0_transform_8 (grid0.coords t) 1 * 256 + 1 * k.val = k.val
    rw [hp]; show 0 * 256 + 1 * k.val = _; omega

/-- The first bias. -/
theorem iblk_3 (c : Dev nD) (t : Fin grid0.N) (k : Fin 256) :
    iblk m c 3 t (ix2 (0 : Fin 1) k) = m ((c : Thread nD τ).loc main_arg3) (ix1 k) := by
  refine Eq.trans ?_ (bias_cast (m ((c : Thread nD τ).loc main_arg3)) k)
  rw [← V_v3]
  refine congrArg (V m c main_v3) (funext fun a => Fin.ext ?_)
  have hp := place_3 t
  match a with
  | ⟨0, _⟩ =>
    show cc0_transform_3 (grid0.coords t) 0 * 1 + 1 * 0 = 0
    rw [hp]; rfl
  | ⟨1, _⟩ =>
    show cc0_transform_3 (grid0.coords t) 1 * 256 + 1 * k.val = k.val
    rw [hp]; show 0 * 256 + 1 * k.val = _; omega

/-- The second bias. -/
theorem iblk_5 (c : Dev nD) (t : Fin grid0.N) (k : Fin 256) :
    iblk m c 5 t (ix2 (0 : Fin 1) k) = m ((c : Thread nD τ).loc main_arg5) (ix1 k) := by
  refine Eq.trans ?_ (bias_cast (m ((c : Thread nD τ).loc main_arg5)) k)
  rw [← V_v4]
  refine congrArg (V m c main_v4) (funext fun a => Fin.ext ?_)
  have hp := place_5 t
  match a with
  | ⟨0, _⟩ =>
    show cc0_transform_5 (grid0.coords t) 0 * 1 + 1 * 0 = 0
    rw [hp]; rfl
  | ⟨1, _⟩ =>
    show cc0_transform_5 (grid0.coords t) 1 * 256 + 1 * k.val = k.val
    rw [hp]; show 0 * 256 + 1 * k.val = _; omega

/-- The third bias. -/
theorem iblk_7 (c : Dev nD) (t : Fin grid0.N) (k : Fin 256) :
    iblk m c 7 t (ix2 (0 : Fin 1) k) = m ((c : Thread nD τ).loc main_arg7) (ix1 k) := by
  refine Eq.trans ?_ (bias_cast (m ((c : Thread nD τ).loc main_arg7)) k)
  rw [← V_v5]
  refine congrArg (V m c main_v5) (funext fun a => Fin.ext ?_)
  have hp := place_7 t
  match a with
  | ⟨0, _⟩ =>
    show cc0_transform_7 (grid0.coords t) 0 * 1 + 1 * 0 = 0
    rw [hp]; rfl
  | ⟨1, _⟩ =>
    show cc0_transform_7 (grid0.coords t) 1 * 256 + 1 * k.val = k.val
    rw [hp]; show 0 * 256 + 1 * k.val = _; omega

/-- The fourth bias. -/
theorem iblk_9 (c : Dev nD) (t : Fin grid0.N) (k : Fin 256) :
    iblk m c 9 t (ix2 (0 : Fin 1) k) = m ((c : Thread nD τ).loc main_arg9) (ix1 k) := by
  refine Eq.trans ?_ (bias_cast (m ((c : Thread nD τ).loc main_arg9)) k)
  rw [← V_v6]
  refine congrArg (V m c main_v6) (funext fun a => Fin.ext ?_)
  have hp := place_9 t
  match a with
  | ⟨0, _⟩ =>
    show cc0_transform_9 (grid0.coords t) 0 * 1 + 1 * 0 = 0
    rw [hp]; rfl
  | ⟨1, _⟩ =>
    show cc0_transform_9 (grid0.coords t) 1 * 256 + 1 * k.val = k.val
    rw [hp]; show 0 * 256 + 1 * k.val = _; omega

end Cert.KernelIdeal.Seg

end
-- ==== Proof.KernelIdeal.Value.lean ====
/- What the kernel returns, over the extended reals, for indices in order.

   `accAt_apply` is the invariant across grid points: after `n` points the accumulator's row `s` holds the sum of the first
   `10000 n` nodes' rows whose index is `s`. `out_value` reads the returned array: the last layers on the first 1024 of
   those sums once all 100000 nodes are in. -/
module

public import proofs.«01_k».proof.Proof.KernelIdeal.Accum
public import proofs.«01_k».proof.Proof.KernelIdeal.Blocks
public import proofs.«01_k».proof.Proof.Indices
public import Idealize.ShloMosaic.Lib.Pipeline.ValueKit.Geometry

@[expose] public section

set_option maxRecDepth 16384

noncomputable section

namespace Cert.KernelIdeal.Seg

open Cert.KernelIdeal Cert.KernelIdeal.Gen Cert.Layers
open Idealize.ShloMosaic Idealize.ShloMosaic.TcCoe Idealize.ShloMosaic.ValueIdx
open Idealize.ShloMosaic.Pipeline (Dat Cfg Window cellOf)
open scoped BigOperators

variable (m : (ℓ : Loc nD τ sig) → Buf (Elt Ideal) ℓ)

/-! ## The arguments by coordinates -/

/-- The index of node `n`, as a number (0 past the last node). -/
def node (c : Dev nD) (n : ℕ) : ℕ := if h : n < 100000 then (idxOf m c (ix1 ⟨n, h⟩)).toNat else 0

/-- Node `n`'s row after the node layers, at column `j`. -/
def nodeRow (c : Dev nD) (n : Fin 100000) (j : Fin 256) : EReal :=
  layers (fun l => m ((c : Thread nD τ).loc main_arg0) (ix2 n l)) (fun l k => m ((c : Thread nD τ).loc main_arg2) (ix2 l k))
    (fun k => m ((c : Thread nD τ).loc main_arg3) (ix1 k)) (fun l k => m ((c : Thread nD τ).loc main_arg4) (ix2 l k))
    (fun k => m ((c : Thread nD τ).loc main_arg5) (ix1 k)) j

/-- The same by the node's number (0 past the last node). -/
def nodeVal (c : Dev nD) (j : Fin 256) (n : ℕ) : EReal := if h : n < 100000 then nodeRow m c ⟨n, h⟩ j else 0

/-! ## One point's block -/

/-- The block's indices are the nodes'. -/
theorem block_index (c : Dev nD) (t : Fin grid0.N) (r : Fin 10000) :
    k0_pay6 (F := Ideal) (iblk m c 1 t) (ix2 (0 : Fin 1) r) = idxOf m c (ix1 (rowAt t r)) := by
  refine Eq.trans ?_ (iblk_1 m c t r)
  unfold k0_pay6
  refine shapeCast_apply _ _ _ _ ?_
  rw [Shape.rowMajor_val_three, Shape.rowMajor_val_two]
  show (0 * 1 + 0) * 10000 + r.val = 0 * 10000 + r.val
  omega

/-- The block's rows after the node layers are the nodes'. -/
theorem block_row (c : Dev nD) (t : Fin grid0.N) (r : Fin 10000) (j : Fin 256) :
    k0_pay1 (F := Ideal) (k0_pay8 (F := Ideal) (iblk m c 0 t) (iblk m c 2 t)) (iblk m c 3 t) (iblk m c 4 t) (iblk m c 5 t) (ix2 r j)
      = nodeRow m c (rowAt t r) j := by
  refine (pay1_apply _ _ _ _ _ r j).trans ?_
  exact layers_congr (fun l => iblk_0 m c t r l) (fun l k => iblk_2 m c t l k) (fun k => iblk_3 m c t k)
    (fun l k => iblk_4 m c t l k) (fun k => iblk_5 m c t k) j

/-- A block's sum at a row, by the nodes' numbers. -/
theorem block_sum (c : Dev nD) (t : Fin grid0.N) (s : ℕ) (j : Fin 256) :
    blockSum (k0_pay6 (F := Ideal) (iblk m c 1 t))
        (k0_pay1 (F := Ideal) (k0_pay8 (F := Ideal) (iblk m c 0 t) (iblk m c 2 t)) (iblk m c 3 t) (iblk m c 4 t) (iblk m c 5 t)) s j
      = ∑ r : Fin 10000, if node m c (10000 * t.val + r.val) = s then nodeVal m c j (10000 * t.val + r.val) else 0 := by
  refine Finset.sum_congr rfl fun r _ => ?_
  have hlt : 10000 * t.val + r.val < 100000 := (rowAt t r).isLt
  rw [block_index m c t r, block_row m c t r j]
  unfold node nodeVal
  rw [dif_pos hlt, dif_pos hlt]
  rfl

/-! ## Across the points -/

/-- The zeroed accumulator. -/
theorem accAt_zero_apply (c : Dev nD) (s : Fin 1152) (j : Fin 256) : cell (accAt m c 0) s j = 0 := by
  show k0_pay5 (F := Ideal) (ix2 s j) = (0 : EReal)
  unfold k0_pay5
  rw [shapeCast_self]
  exact Ideal.ofBits_zero_f32

/-- The accumulator after `n` points: at row `s`, the sum of the first `10000 n` nodes' rows whose index is `s`. -/
theorem accAt_apply (hs : ∀ c : Dev nD, Cert.Indices.Sorted (idxOf m c)) (c : Dev nD) :
    ∀ n, n ≤ 10 → ∀ (s : Fin 1152) (j : Fin 256), cell (accAt m c n) s j = below (node m c) (nodeVal m c j) s.val (10000 * n) := by
  obtain rfl : c = 0 := Subsingleton.elim _ _
  intro n
  induction n with
  | zero => intro _ s j; rw [accAt_zero_apply]; exact (below_zero _ _ _).symm
  | succ n ih =>
    intro hn s j
    let t : Fin grid0.N := ⟨n, by rw [N_eq]; omega⟩
    have hlo : ∀ r : Fin 10000, (firstW m t).toNat ≤ (k0_pay6 (F := Ideal) (iblk m 0 1 t) (ix2 (0 : Fin 1) r)).toNat := fun r => by
      rw [block_index m 0 t r, firstW_eq]
      exact (hs 0).mono _ _ (Fin.mk_le_mk.2 (by omega))
    have hhi : ∀ r : Fin 10000, (k0_pay6 (F := Ideal) (iblk m 0 1 t) (ix2 (0 : Fin 1) r)).toNat ≤ (lastW m t).toNat := fun r => by
      rw [block_index m 0 t r, lastW_eq]
      exact (hs 0).mono _ _ (Fin.mk_le_mk.2 (by have := r.isLt; omega))
    have hT := tablesOk m (hs 0).lt t
    have e := accAt_succ m 0 t
    rw [show accAt m 0 (n + 1) = _ from e]
    refine (afterPoint_apply _ _ _ _ _ _ _ _ hT.1 hT.2 hlo hhi _ s j).trans ?_
    rw [show cell (accAt m 0 t.val) s j = _ from ih (by omega) s j, block_sum m 0 t s.val j]
    exact (below_add _ _ _ (10000 * n) 10000).symm.trans (congrArg _ (by omega))

/-! ## The returned array -/

/-- Segment `s`'s sum of the nodes' rows. -/
def segRow (c : Dev nD) (s : Fin 1024) (j : Fin 256) : EReal :=
  ∑ n : Fin 100000, if (idxOf m c (ix1 n)).toNat = s.val then nodeRow m c n j else 0

/-- The returned array: the last layers on the segments' sums. -/
def result (c : Dev nD) : FVec Ideal S1024x256 .f32 := fun i =>
  layers (fun l => segRow m c (i 0) l) (fun l k => m ((c : Thread nD τ).loc main_arg6) (ix2 l k))
    (fun k => m ((c : Thread nD τ).loc main_arg7) (ix1 k)) (fun l k => m ((c : Thread nD τ).loc main_arg8) (ix2 l k))
    (fun k => m ((c : Thread nD τ).loc main_arg9) (ix1 k)) (i 1)

/-- All the nodes' rows with index `s` are segment `s`'s sum. -/
theorem below_eq_segRow (c : Dev nD) (s : Fin 1024) (j : Fin 256) : below (node m c) (nodeVal m c j) s.val 100000 = segRow m c s j := by
  rw [below_all]
  refine Finset.sum_congr rfl fun n _ => ?_
  unfold node nodeVal
  rw [dif_pos n.isLt, dif_pos n.isLt]

/-- The accumulator's first 1024 rows once all the nodes are in. -/
theorem segments_read (hs : ∀ c : Dev nD, Cert.Indices.Sorted (idxOf m c)) (c : Dev nD) (s : Fin 1024) (l : Fin 256) :
    (accM.view.readAt (Elt Ideal) rOut.toLoadRect (accAt m c 10) (ix2 s l) : EReal) = segRow m c s l := by
  have e : (rOut.toLoadRect.idx (ix2 s l) : S1152x256.Idx) = ix2 ⟨s.val, by have := s.isLt; omega⟩ l := funext fun a => Fin.ext (by
    match a with
    | ⟨0, _⟩ => show 0 + 1 * s.val = s.val; omega
    | ⟨1, _⟩ => show 0 + 1 * l.val = l.val; omega)
  refine (congrArg (accAt m c 10) e).trans ?_
  exact (accAt_apply m hs c 10 le_rfl _ l).trans (below_eq_segRow m c s l)

/-- The output block after the last point. -/
theorem outVal_eq (hs : ∀ c : Dev nD, Cert.Indices.Sorted (idxOf m c)) (c : Dev nD) (t : Fin grid0.N) (ht : t.val = 9)
    (s : Fin 1024) (j : Fin 256) : outVal m c t (ix2 s j) = result m c (ix2 s j) := by
  refine (pay3_apply _ _ _ _ _ s j).trans ?_
  exact layers_congr (fun l => by rw [ht]; exact segments_read m hs c s l) (fun l k => iblk_6 m c t l k) (fun k => iblk_7 m c t k)
    (fun l k => iblk_8 m c t l k) (fun k => iblk_9 m c t k) j

/-- The output is stored at the last point only. -/
theorem flush_out (t : Fin (cfgM m).N) : ((cfgM m).win 10).flush t = true ↔ t.val = 9 := by
  refine (Pipeline.Window.flushOf_const cc0_transform_10 (fun _ _ => rfl) (n := 10) (by decide) rfl t).trans ?_
  have := row_lt t
  omega

/-- The output's block is the whole returned array. -/
theorem emb_out (t : Fin (cfgM m).N) (y : S1024x256.Idx) : (((cfgM m).win 10).blk t).view.emb y = y := funext fun a => Fin.ext (by
  have hp := place_10 t
  match a with
  | ⟨0, _⟩ =>
    show cc0_transform_10 (grid0.coords t) 0 * 1024 + 1 * (y 0).val = (y 0).val
    rw [hp]; show 0 * 1024 + 1 * (y 0).val = _; omega
  | ⟨1, _⟩ =>
    show cc0_transform_10 (grid0.coords t) 1 * 256 + 1 * (y 1).val = (y 1).val
    rw [hp]; show 0 * 256 + 1 * (y 1).val = _; omega)

/-- The output block after the last point, whole. -/
theorem outVal_eq_result (hs : ∀ c : Dev nD, Cert.Indices.Sorted (idxOf m c)) (c : Dev nD) (t : Fin grid0.N) (ht : t.val = 9) :
    outVal m c t = result m c :=
  funext fun y => by rw [eq_ix2 y]; exact outVal_eq m hs c t ht _ _

/-- The returned array once the grid is done. -/
theorem out_value (hs : ∀ c : Dev nD, Cert.Indices.Sorted (idxOf m c)) (c : Dev nD) :
    (dats m 0 c).arrAt 10 (cfgM m).N = result m c := by
  refine (dats m 0 c).arrAt_eq_of_emb 10 _ (fun t hf y => ?_) fun i => ⟨⟨9, by show 9 < grid0.N; rw [N_eq]; omega⟩, (flush_out m _).2 rfl, ?_⟩
  · rw [after_10, outVal_eq_result m hs c t ((flush_out m t).1 hf), emb_out m t y]
    rfl
  · have h := View.emb_mem_set (v := (((cfgM m).win 10).blk ⟨9, by show 9 < grid0.N; rw [N_eq]; omega⟩).view) (i : S1024x256.Idx)
    exact (congrArg (· ∈ _) (emb_out m _ i)).mp h

end Cert.KernelIdeal.Seg

end
-- ==== Proof.RefValue.lean ====
/- What the reference returns, over the extended reals.

   `segment_sum` reads the reference's scatter-add: at segment `s`, the sum of the rows whose index is `s`. `ref_value` reads
   the whole program: the last layers on those sums of the nodes' rows. -/
module

public import proofs.«01_k».proof.Proof.Gen.ReferenceIdeal.Run
public import proofs.«01_k».proof.Proof.Layers
public import Idealize.ShloMosaic.Lib.StackMember
public import Idealize.ShloMosaic.Lib.Routing.OpsPair
public import Idealize.ShloMosaic.Lib.IdealHost
public import Idealize.ShloMosaic.Lib.Pipeline.Value
public import Idealize.ShloMosaic.Lib.ValueIdx

@[expose] public section

set_option maxRecDepth 16384

noncomputable section

namespace Cert.ReferenceIdeal.Seg

open Cert.ReferenceIdeal Cert.ReferenceIdeal.Gen Cert.Layers
open Idealize.ShloMosaic Idealize.ShloMosaic.TcCoe Idealize.ShloMosaic.ValueIdx
open scoped BigOperators

/-! ## Where the scatter-add puts a row -/

/-- The scatter's dimension numbers. -/
abbrev dScat : ScatterDims S1024x256 S100000x1 S100000x256 := scatter_S1024x256_S100000x1_S100000x256_1_0_0_1

/-- The start of node `n`'s window: its index, read signed, in the segments' axis. -/
theorem start_seg (n : Fin 100000) (l : Fin 256) (ids : IVec S100000x1 32) : dScat.start (ix2 n l) ids 0 = (ids (ix2 n (0 : Fin 1))).toInt := by
  unfold ScatterDims.start
  rw [dif_pos (show (0 : Fin 2) ∈ dScat.scatterDimsToOperandDims from List.mem_singleton.2 rfl)]
  refine congrArg (fun k => (ids k).toInt) (funext fun a => ?_)
  match a with
  | ⟨0, _⟩ => rfl
  | ⟨1, _⟩ => exact Subsingleton.elim (α := Fin 1) _ _

/-- It starts at column 0. -/
theorem start_col (n : Fin 100000) (l : Fin 256) (ids : IVec S100000x1 32) : dScat.start (ix2 n l) ids 1 = 0 := by
  unfold ScatterDims.start
  exact dif_neg (show (1 : Fin 2) ∉ dScat.scatterDimsToOperandDims by decide)

/-- The window is one segment high. -/
theorem window_seg (n : Fin 100000) (l : Fin 256) : dScat.window (ix2 n l) 0 = 0 := by
  unfold ScatterDims.window
  exact dif_neg (show (0 : Fin 2) ∉ dScat.sKept by decide)

/-- And all columns wide. -/
theorem window_col (n : Fin 100000) (l : Fin 256) : dScat.window (ix2 n l) 1 = l.val := by
  unfold ScatterDims.window
  rw [dif_pos (show (1 : Fin 2) ∈ dScat.sKept by decide)]
  rfl

/-- Node `n`'s number in column `l` is added at segment `s` and column `j` exactly when the node's index is `s` and `l` is `j`. -/
theorem lands_iff (ids : IVec S100000x1 32) (hids : ∀ n : Fin 100000, (ids (ix2 n (0 : Fin 1))).toNat < 1024)
    (n : Fin 100000) (l : Fin 256) (s : Fin 1024) (j : Fin 256) :
    dScat.resultIdx? (ix2 n l) ids = some (ix2 s j) ↔ (ids (ix2 n (0 : Fin 1))).toNat = s.val ∧ l = j := by
  have hi : (ids (ix2 n (0 : Fin 1))).toInt = ((ids (ix2 n (0 : Fin 1))).toNat : ℤ) := by
    have := hids n
    rw [BitVec.toInt_eq_toNat_cond]; omega
  refine (Routing.resultIdx?_ix2 dScat (ix2 n l) ids s j).trans ?_
  rw [start_seg, start_col, window_seg, window_col, hi, Fin.ext_iff]
  omega

/-- The scatter-add into zeros, at an index: the sum of the rows whose index is the segment. -/
theorem segment_sum (ids : IVec S100000x1 32) (hids : ∀ n : Fin 100000, (ids (ix2 n (0 : Fin 1))).toNat < 1024)
    (z : FVec Ideal S1024x256 .f32) (y : FVec Ideal S100000x256 .f32) (s : Fin 1024) (j : Fin 256) (hz : z (ix2 s j) = (0 : EReal)) :
    Host.scatterAdd dScat z ids y (ix2 s j) = ∑ n : Fin 100000, if (ids (ix2 n (0 : Fin 1))).toNat = s.val then (y (ix2 n j) : EReal) else 0 := by
  show (z (ix2 s j) : EReal) + ∑ u ∈ Finset.univ.filter (fun u => dScat.resultIdx? u ids = some (ix2 s j)), (y u : EReal) = _
  rw [hz, zero_add, Finset.sum_filter, sum_idx2]
  refine Finset.sum_congr rfl fun n _ => ?_
  rw [Finset.sum_eq_single j]
  · exact if_congr ((lands_iff ids hids n j s j).trans (and_iff_left rfl)) rfl rfl
  · intro l _ hl
    exact if_neg fun h => hl ((lands_iff ids hids n l s j).1 h).2
  · intro h; exact absurd (Finset.mem_univ j) h

/-! ## The layers -/

/-- A bias spread over the nodes' rows. -/
theorem bias_nodes (b : FVec Ideal S256 .f32) (n : Fin 100000) (j : Fin 256) :
    broadcastInDim S100000x256 ![0, 1] bcast_S1x256_S100000x256_0_1 (broadcastInDim S1x256 ![1] bcast_S256_S1x256_1 b) (ix2 n j) = b (ix1 j) := by
  refine congrArg b (funext fun a => Fin.ext ?_)
  match a with
  | ⟨0, _⟩ => rfl

/-- A bias spread over the segments' rows. -/
theorem bias_segs (b : FVec Ideal S256 .f32) (s : Fin 1024) (j : Fin 256) :
    broadcastInDim S1024x256 ![0, 1] bcast_S1x256_S1024x256_0_1 (broadcastInDim S1x256 ![1] bcast_S256_S1x256_1 b) (ix2 s j) = b (ix1 j) := by
  refine congrArg b (funext fun a => Fin.ext ?_)
  match a with
  | ⟨0, _⟩ => rfl

/-- The nodes' rows after the node layers, as the reference computes them. -/
def nodes (x : FVec Ideal S100000x256 .f32) (w1 : FVec Ideal S256x256 .f32) (b1 : FVec Ideal S256 .f32) (w2 : FVec Ideal S256x256 .f32)
    (b2 : FVec Ideal S256 .f32) : FVec Ideal S100000x256 .f32 :=
  addf (Host.dotGeneral dot_S100000x256_S256x256_S100000x256_1_0_0_1_n_n none
      (maximumf (addf (Host.dotGeneral dot_S100000x256_S256x256_S100000x256_1_0_0_1_n_n none x w1)
          (broadcastInDim S100000x256 ![0, 1] bcast_S1x256_S100000x256_0_1 (broadcastInDim S1x256 ![1] bcast_S256_S1x256_1 b1)))
        (broadcastInDim S100000x256 ![] bcast_S_S100000x256 (constant S_ .f32 0x00000000#32))) w2)
    (broadcastInDim S100000x256 ![0, 1] bcast_S1x256_S100000x256_0_1 (broadcastInDim S1x256 ![1] bcast_S256_S1x256_1 b2))

/-- They are the layers of the node's row. -/
theorem nodes_apply (x : FVec Ideal S100000x256 .f32) (w1 : FVec Ideal S256x256 .f32) (b1 : FVec Ideal S256 .f32) (w2 : FVec Ideal S256x256 .f32)
    (b2 : FVec Ideal S256 .f32) (n : Fin 100000) (j : Fin 256) :
    nodes x w1 b1 w2 b2 (ix2 n j) = layers (fun l => x (ix2 n l)) (fun l k => w1 (ix2 l k)) (fun k => b1 (ix1 k))
      (fun l k => w2 (ix2 l k)) (fun k => b2 (ix1 k)) j := by
  unfold nodes layers
  refine congrArg₂ (· + ·) ((StackMember.dotGeneral_plain_apply none _ w2 n j).trans (Finset.sum_congr rfl fun k _ => congrArg (· * w2 (ix2 k j)) ?_)) (bias_nodes b2 n j)
  exact congrArg₂ max (congrArg₂ (· + ·) (StackMember.dotGeneral_plain_apply none x w1 n k) (bias_nodes b1 n k)) Ideal.ofBits_zero_f32

/-- The last layers, as the reference computes them. -/
def last (x : FVec Ideal S1024x256 .f32) (w1 : FVec Ideal S256x256 .f32) (b1 : FVec Ideal S256 .f32) (w2 : FVec Ideal S256x256 .f32)
    (b2 : FVec Ideal S256 .f32) : FVec Ideal S1024x256 .f32 :=
  addf (Host.dotGeneral dot_S1024x256_S256x256_S1024x256_1_0_0_1_n_n none
      (maximumf (addf (Host.dotGeneral dot_S1024x256_S256x256_S1024x256_1_0_0_1_n_n none x w1)
          (broadcastInDim S1024x256 ![0, 1] bcast_S1x256_S1024x256_0_1 (broadcastInDim S1x256 ![1] bcast_S256_S1x256_1 b1)))
        (broadcastInDim S1024x256 ![] bcast_S_S1024x256 (constant S_ .f32 0x00000000#32))) w2)
    (broadcastInDim S1024x256 ![0, 1] bcast_S1x256_S1024x256_0_1 (broadcastInDim S1x256 ![1] bcast_S256_S1x256_1 b2))

/-- They are the layers of the segment's row. -/
theorem last_apply (x : FVec Ideal S1024x256 .f32) (w1 : FVec Ideal S256x256 .f32) (b1 : FVec Ideal S256 .f32) (w2 : FVec Ideal S256x256 .f32)
    (b2 : FVec Ideal S256 .f32) (s : Fin 1024) (j : Fin 256) :
    last x w1 b1 w2 b2 (ix2 s j) = layers (fun l => x (ix2 s l)) (fun l k => w1 (ix2 l k)) (fun k => b1 (ix1 k))
      (fun l k => w2 (ix2 l k)) (fun k => b2 (ix1 k)) j := by
  unfold last layers
  refine congrArg₂ (· + ·) ((StackMember.dotGeneral_plain_apply none _ w2 s j).trans (Finset.sum_congr rfl fun k _ => congrArg (· * w2 (ix2 k j)) ?_)) (bias_segs b2 s j)
  exact congrArg₂ max (congrArg₂ (· + ·) (StackMember.dotGeneral_plain_apply none x w1 s k) (bias_segs b1 s k)) Ideal.ofBits_zero_f32

/-! ## The whole program -/

/-- The reference's result as a term of its arguments. -/
def refOut (x : FVec Ideal S100000x256 .f32) (idx : IVec S100000 32) (w1 : FVec Ideal S256x256 .f32) (b1 : FVec Ideal S256 .f32)
    (w2 : FVec Ideal S256x256 .f32) (b2 : FVec Ideal S256 .f32) (w3 : FVec Ideal S256x256 .f32) (b3 : FVec Ideal S256 .f32)
    (w4 : FVec Ideal S256x256 .f32) (b4 : FVec Ideal S256 .f32) : FVec Ideal S1024x256 .f32 :=
  last (Host.scatterAdd dScat (broadcastInDim S1024x256 ![] bcast_S_S1024x256 (constant S_ .f32 0x00000000#32))
    (broadcastInDim S100000x1 ![0] bcast_S100000_S100000x1_0 idx) (nodes x w1 b1 w2 b2)) w3 b3 w4 b4

/-- The reference's result at an index: the last layers on the sums, by segment, of the nodes' rows. -/
theorem ref_value (x : FVec Ideal S100000x256 .f32) (idx : IVec S100000 32) (w1 : FVec Ideal S256x256 .f32) (b1 : FVec Ideal S256 .f32)
    (w2 : FVec Ideal S256x256 .f32) (b2 : FVec Ideal S256 .f32) (w3 : FVec Ideal S256x256 .f32) (b3 : FVec Ideal S256 .f32)
    (w4 : FVec Ideal S256x256 .f32) (b4 : FVec Ideal S256 .f32) (hidx : ∀ y, (idx y).toNat < 1024) (s : Fin 1024) (j : Fin 256) :
    refOut x idx w1 b1 w2 b2 w3 b3 w4 b4 (ix2 s j)
      = layers (fun l => ∑ n : Fin 100000, if (idx (ix1 n)).toNat = s.val then
            layers (fun l => x (ix2 n l)) (fun l k => w1 (ix2 l k)) (fun k => b1 (ix1 k)) (fun l k => w2 (ix2 l k)) (fun k => b2 (ix1 k)) l
          else 0)
        (fun l k => w3 (ix2 l k)) (fun k => b3 (ix1 k)) (fun l k => w4 (ix2 l k)) (fun k => b4 (ix1 k)) j := by
  have hb : ∀ n : Fin 100000, broadcastInDim S100000x1 ![0] bcast_S100000_S100000x1_0 idx (ix2 n (0 : Fin 1)) = idx (ix1 n) := fun n =>
    congrArg idx (funext fun a => Fin.ext (by match a with | ⟨0, _⟩ => rfl))
  refine (last_apply _ w3 b3 w4 b4 s j).trans (layers_congr (fun l => ?_) (fun _ _ => rfl) (fun _ => rfl) (fun _ _ => rfl) (fun _ => rfl) j)
  refine (segment_sum _ (fun n => by rw [hb]; exact hidx _) _ _ s l Ideal.ofBits_zero_f32).trans (Finset.sum_congr rfl fun n _ => ?_)
  rw [hb, nodes_apply]

end Cert.ReferenceIdeal.Seg

end
-- ==== Proof.lean ====
module

public import proofs.«01_k».proof.Defs
public import proofs.«01_k».proof.Proof.Indices
public import proofs.«01_k».proof.Proof.Kernel.Run
public import proofs.«01_k».proof.Proof.Kernel.Tables
public import proofs.«01_k».proof.Proof.KernelIdeal.Run
public import proofs.«01_k».proof.Proof.KernelIdeal.Tables
public import proofs.«01_k».proof.Proof.KernelIdeal.Value
public import proofs.«01_k».proof.Proof.RefValue
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_indices_in_range.Gen.facts
  Cert.Pre_indices_sorted.Gen.facts

/-- The kernel as printed leaves its arguments as they were, and every counter at zero. -/
theorem frame_kernel : Cert.quiescent_Kernel := fun m g h =>
  Cert.Kernel.Seg.frame m g (Cert.Kernel.Seg.tablesOk m (Cert.Indices.lt_of_in_range _ _ _ _ _ _ _ _ _ _ (h 0)))

/-- So does the kernel over the extended reals. -/
theorem frame_ideal : Cert.quiescent_KernelIdeal := fun m g h =>
  Cert.KernelIdeal.Seg.frame m g (Cert.KernelIdeal.Seg.tablesOk m (Cert.Indices.lt_of_in_range _ _ _ _ _ _ _ _ _ _ (h 0)))

theorem frame_ideal_sorted : Cert.quiescent_KernelIdeal_pre_indices_sorted := fun m g h =>
  Cert.KernelIdeal.Seg.frame m g (Cert.KernelIdeal.Seg.tablesOk m (Cert.Indices.sorted_of_pre _ _ _ _ _ _ _ _ _ _ (h 0)).lt)

/-- And the reference. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The kernel's run: the returned array is `result`, and the arguments are unchanged. -/
theorem kernel_run (m : (ℓ : Loc Cert.KernelIdeal.nD Cert.KernelIdeal.τ Cert.KernelIdeal.sig) → Buf (Elt Ideal) ℓ) (g : Dev Cert.KernelIdeal.nD → PrngReg)
    (hs : ∀ c : Dev Cert.KernelIdeal.nD, Cert.Indices.Sorted (Cert.KernelIdeal.Seg.idxOf m c)) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v7) = Cert.KernelIdeal.Seg.result m c) :=
  (θ_run Cert.KernelIdeal.defs _ _).mono
    (fun _ h c => ((h.1 c).1 10).trans (Cert.KernelIdeal.Seg.out_value m hs c))
    (Cert.KernelIdeal.Seg.run_main m g (Cert.KernelIdeal.Seg.tablesOk m (hs 0).lt))

/-- From arguments that agree, the reference's result is the kernel's. -/
theorem refOut_eq_result (m : (ℓ : Loc Cert.KernelIdeal.nD Cert.KernelIdeal.τ Cert.KernelIdeal.sig) → Buf (Elt Ideal) ℓ) (c : Dev Cert.KernelIdeal.nD)
    (hs : Cert.Indices.Sorted (Cert.KernelIdeal.Seg.idxOf m c)) :
    Cert.ReferenceIdeal.Seg.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) = Cert.KernelIdeal.Seg.result m c :=
  funext fun i => by
    rw [Idealize.ShloMosaic.ValueIdx.eq_ix2 i]
    exact Cert.ReferenceIdeal.Seg.ref_value _ _ _ _ _ _ _ _ _ _ hs.lt _ _

/-- For indices in order, the kernel and the reference return the same array over the extended reals. -/
theorem equal : Cert.algebraic_KernelIdeal_ReferenceIdeal_pre_indices_sorted := fun m g m' g' h hargs => by
  have hs : ∀ c : Dev Cert.KernelIdeal.nD, Cert.Indices.Sorted (Cert.KernelIdeal.Seg.idxOf m c) := fun c =>
    Cert.Indices.sorted_of_pre _ _ _ _ _ _ _ _ _ _ (h c)
  refine ⟨Cert.KernelIdeal.Seg.result m, ?_, ?_⟩
  · exact (θ_run Cert.KernelIdeal.defs _ _).mono (fun _ q c => ⟨q.1 c, q.2.1 c⟩)
      (θ_run_and (kernel_run m g hs) (frame_ideal_sorted m g h))
  · refine (θ_run Cert.ReferenceIdeal.defs _ _).mono (fun _ q c => ⟨(q c).1.trans ?_, (q c).2⟩) (Cert.ReferenceIdeal.Value.run m' g')
    obtain ⟨e0, e1, e2, e3, e4, e5, e6, e7, e8, e9⟩ := hargs c
    rw [e0, e1, e2, e3, e4, e5, e6, e7, e8, e9]
    exact refOut_eq_result m c (hs c)

theorem claim : Cert.Claim := ⟨Cert.Kernel.Gen.facts, Cert.KernelIdeal.Gen.facts, Cert.ReferenceIdeal.Gen.facts, Cert.Pre_indices_in_range.Gen.facts, Cert.Pre_indices_sorted.Gen.facts,
  frame_kernel, frame_ideal, frame_ideal_sorted, frame_reference, fun m g _ => frame_reference m g trivial, trivial, equal⟩

end Cert.Proof

end
